-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x256x2304 : Shape := ⟨3, ![6, 256, 2304]⟩
abbrev S9216x288 : Shape := ⟨2, ![9216, 288]⟩
abbrev S9216 : Shape := ⟨1, ![9216]⟩
abbrev S9216x9 : Shape := ⟨2, ![9216, 9]⟩
abbrev S2304 : Shape := ⟨1, ![2304]⟩
abbrev S_ : Shape := ⟨0, ![]⟩

class Facts : Prop where
  bitsLt_bf16_f32 : FTy.bits .bf16 < FTy.bits .f32
  bcast_S_S6x256x2304 : S_.BroadcastsInDim S6x256x2304 (![] : Fin 0 → Fin S6x256x2304.rank)
  bcast_S_S9216 : S_.BroadcastsInDim S9216 (![] : Fin 0 → Fin S9216.rank)
  bcast_S_S9216x9 : S_.BroadcastsInDim S9216x9 (![] : Fin 0 → Fin S9216x9.rank)
  bcast_S_S2304 : S_.BroadcastsInDim S2304 (![] : Fin 0 → Fin S2304.rank)

variable [Facts]

def fn {F : FTy → Type} [FloatOps F] (main_arg0 : FVec F S6x256x2304 .bf16) (main_arg1 : IVec S9216x288 16) (main_arg2 : FVec F S9216 .f32) (main_arg3 : FVec F S9216x9 .f32) (main_arg4 : FVec F S2304 .f32) (main_arg5 : FVec F S9216 .f32) : IVec S6x256x2304 1 × IVec S9216 1 × IVec S9216x9 1 × IVec S2304 1 :=
  let main_v0 : FVec F S6x256x2304 .f32 := (extf .f32 · bitsLt_bf16_f32) main_arg0
  let main_v1 : FVec F S6x256x2304 .f32 := Host.absf main_v0
  let main_cst : FVec F S_ .f32 := constant S_ .f32 0x7F800000#32
  let main_v2 : FVec F S6x256x2304 .f32 := broadcastInDim S6x256x2304 ![] bcast_S_S6x256x2304 main_cst
  let main_v3 : IVec S6x256x2304 1 := cmpf .olt main_v1 main_v2
  let main_v4 : FVec F S9216 .f32 := Host.absf main_arg2
  let main_cst_0 : FVec F S_ .f32 := constant S_ .f32 0x7F800000#32
  let main_v5 : FVec F S9216 .f32 := broadcastInDim S9216 ![] bcast_S_S9216 main_cst_0
  let main_v6 : IVec S9216 1 := cmpf .olt main_v4 main_v5
  let main_v7 : FVec F S9216x9 .f32 := Host.absf main_arg3
  let main_cst_1 : FVec F S_ .f32 := constant S_ .f32 0x7F800000#32
  let main_v8 : FVec F S9216x9 .f32 := broadcastInDim S9216x9 ![] bcast_S_S9216x9 main_cst_1
  let main_v9 : IVec S9216x9 1 := cmpf .olt main_v7 main_v8
  let main_v10 : FVec F S2304 .f32 := Host.absf main_arg4
  let main_cst_2 : FVec F S_ .f32 := constant S_ .f32 0x7F800000#32
  let main_v11 : FVec F S2304 .f32 := broadcastInDim S2304 ![] bcast_S_S2304 main_cst_2
  let main_v12 : IVec S2304 1 := cmpf .olt main_v10 main_v11
  (main_v3, main_v6, main_v9, main_v12)
-- ==== Kernel.lean ====
abbrev S6x256x2304 : Shape := ⟨3, ![6, 256, 2304]⟩
abbrev S9216x288 : Shape := ⟨2, ![9216, 288]⟩
abbrev S9216 : Shape := ⟨1, ![9216]⟩
abbrev S9216x9 : Shape := ⟨2, ![9216, 9]⟩
abbrev S2304 : Shape := ⟨1, ![2304]⟩
abbrev S1536x2304 : Shape := ⟨2, ![1536, 2304]⟩
abbrev S1x2304 : Shape := ⟨2, ![1, 2304]⟩
abbrev S256x2304 : Shape := ⟨2, ![256, 2304]⟩
abbrev S256x256 : Shape := ⟨2, ![256, 256]⟩
abbrev S1x256 : Shape := ⟨2, ![1, 256]⟩
abbrev S256x32 : Shape := ⟨2, ![256, 32]⟩
abbrev S256x128 : Shape := ⟨2, ![256, 128]⟩
abbrev S72x128 : Shape := ⟨2, ![72, 128]⟩
abbrev S1536x9216 : Shape := ⟨2, ![1536, 9216]⟩
abbrev S1024x288 : Shape := ⟨2, ![1024, 288]⟩
abbrev S1024x9 : Shape := ⟨2, ![1024, 9]⟩
abbrev S8x128 : Shape := ⟨2, ![8, 128]⟩
abbrev S1536x1024 : Shape := ⟨2, ![1536, 1024]⟩
abbrev S1024x2304 : Shape := ⟨2, ![1024, 2304]⟩
abbrev S1024x128 : Shape := ⟨2, ![1024, 128]⟩
abbrev S512x256 : Shape := ⟨2, ![512, 256]⟩
abbrev S1056x128 : Shape := ⟨2, ![1056, 128]⟩
abbrev S1152x128 : Shape := ⟨2, ![1152, 128]⟩
abbrev S16x9 : Shape := ⟨2, ![16, 9]⟩
abbrev S16x128 : Shape := ⟨2, ![16, 128]⟩
abbrev S16x1 : Shape := ⟨2, ![16, 1]⟩
abbrev S16x32 : Shape := ⟨2, ![16, 32]⟩
abbrev S8x32 : Shape := ⟨2, ![8, 32]⟩
abbrev S1x128 : Shape := ⟨2, ![1, 128]⟩
abbrev S128x128 : Shape := ⟨2, ![128, 128]⟩
abbrev S512x2304 : Shape := ⟨2, ![512, 2304]⟩
abbrev S6x256x9216 : Shape := ⟨3, ![6, 256, 9216]⟩

abbrev nBuf : Space → Nat
  | .hbm => 15
  | .vmem => 25
  | .smem => 0
  | _ => 0

abbrev bufTy : (tb : Table) → Fin (tcTables nBuf tb) → BufTy
  | .hbm, ⟨0, _⟩ => ⟨S6x256x2304, .bf16⟩
  | .hbm, ⟨1, _⟩ => ⟨S9216x288, .i16⟩
  | .hbm, ⟨2, _⟩ => ⟨S9216, .f32⟩
  | .hbm, ⟨3, _⟩ => ⟨S9216x9, .f32⟩
  | .hbm, ⟨4, _⟩ => ⟨S2304, .f32⟩
  | .hbm, ⟨5, _⟩ => ⟨S9216, .f32⟩
  | .hbm, ⟨6, _⟩ => ⟨S1536x2304, .bf16⟩
  | .hbm, ⟨7, _⟩ => ⟨S1x2304, .f32⟩
  | .hbm, ⟨8, _⟩ => ⟨S1536x2304, .bf16⟩
  | .hbm, ⟨9, _⟩ => ⟨S1536x2304, .bf16⟩
  | .hbm, ⟨10, _⟩ => ⟨S72x128, .f32⟩
  | .hbm, ⟨11, _⟩ => ⟨S72x128, .f32⟩
  | .hbm, ⟨12, _⟩ => ⟨S1536x9216, .bf16⟩
  | .hbm, ⟨13, _⟩ => ⟨S6x256x9216, .bf16⟩
  | .hbm, ⟨14, _⟩ => ⟨S6x256x2304, .bf16⟩
  | .local _ .vmem, ⟨0, _⟩ => ⟨S256x2304, .bf16⟩
  | .local _ .vmem, ⟨1, _⟩ => ⟨S256x2304, .bf16⟩
  | .local _ .vmem, ⟨2, _⟩ => ⟨S1x2304, .f32⟩
  | .local _ .vmem, ⟨3, _⟩ => ⟨S256x2304, .bf16⟩
  | .local _ .vmem, ⟨4, _⟩ => ⟨S256x2304, .bf16⟩
  | .local _ .vmem, ⟨5, _⟩ => ⟨S256x2304, .bf16⟩
  | .local _ .vmem, ⟨6, _⟩ => ⟨S256x2304, .bf16⟩
  | .local _ .vmem, ⟨7, _⟩ => ⟨S256x256, .bf16⟩
  | .local _ .vmem, ⟨8, _⟩ => ⟨S256x256, .bf16⟩
  | .local _ .vmem, ⟨9, _⟩ => ⟨S1024x288, .i16⟩
  | .local _ .vmem, ⟨10, _⟩ => ⟨S1024x288, .i16⟩
  | .local _ .vmem, ⟨11, _⟩ => ⟨S1024x9, .f32⟩
  | .local _ .vmem, ⟨12, _⟩ => ⟨S1024x9, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S1536x2304, .bf16⟩
  | .local _ .vmem, ⟨18, _⟩ => ⟨S1536x1024, .bf16⟩
  | .local _ .vmem, ⟨19, _⟩ => ⟨S1536x1024, .bf16⟩
  | .local _ .vmem, ⟨20, _⟩ => ⟨S1024x2304, .bf16⟩
  | .local _ .vmem, ⟨21, _⟩ => ⟨S1024x128, .f32⟩
  | .local _ .vmem, ⟨22, _⟩ => ⟨S512x256, .f32⟩
  | .local _ .vmem, ⟨23, _⟩ => ⟨S1056x128, .f32⟩
  | .local _ .vmem, ⟨24, _⟩ => ⟨S1152x128, .f32⟩
  | _, _ => ⟨S6x256x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [BitOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![9], ![false]⟩

@[reducible] def k1_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  v66
def k1_off1 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v69 : Index := Scalar.indexCast v68
  let c0_21 : Index := 0#32
  ![v69.toNat, 0]
def k1_off2 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v72 : Index := Scalar.indexCast v68
  let c0_22 : Index := 0#32
  ![v72.toNat, 0]
def k1_off3 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v253 : Index := Scalar.indexCast v68
  let c0_71 : Index := 0#32
  ![v253.toNat, 0]
def k1_off4 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v310 : Index := Scalar.indexCast v68
  let c128_94 : Index := 128#32
  ![v310.toNat, 128]
def k1_off5 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v367 : Index := Scalar.indexCast v68
  let c256_116 : Index := 256#32
  ![v367.toNat, 256]
def k1_off6 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v424 : Index := Scalar.indexCast v68
  let c384_138 : Index := 384#32
  ![v424.toNat, 384]
def k1_off7 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v481 : Index := Scalar.indexCast v68
  let c512_160 : Index := 512#32
  ![v481.toNat, 512]
def k1_off8 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v538 : Index := Scalar.indexCast v68
  let c640_182 : Index := 640#32
  ![v538.toNat, 640]
def k1_off9 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v595 : Index := Scalar.indexCast v68
  let c768_205 : Index := 768#32
  ![v595.toNat, 768]
def k1_off10 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v652 : Index := Scalar.indexCast v68
  let c896_227 : Index := 896#32
  ![v652.toNat, 896]
def k1_off11 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v656 : Index := Scalar.indexCast v68
  let c128_228 : Index := 128#32
  ![v656.toNat, 128]
def k1_off12 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v837 : Index := Scalar.indexCast v68
  let c1024 : Index := 1024#32
  ![v837.toNat, 1024]
def k1_off13 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v894 : Index := Scalar.indexCast v68
  let c1152 : Index := 1152#32
  ![v894.toNat, 1152]
def k1_off14 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v951 : Index := Scalar.indexCast v68
  let c1280 : Index := 1280#32
  ![v951.toNat, 1280]
def k1_off15 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1008 : Index := Scalar.indexCast v68
  let c1408 : Index := 1408#32
  ![v1008.toNat, 1408]
def k1_off16 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1065 : Index := Scalar.indexCast v68
  let c1536 : Index := 1536#32
  ![v1065.toNat, 1536]
def k1_off17 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1122 : Index := Scalar.indexCast v68
  let c1664 : Index := 1664#32
  ![v1122.toNat, 1664]
def k1_off18 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1179 : Index := Scalar.indexCast v68
  let c1792 : Index := 1792#32
  ![v1179.toNat, 1792]
def k1_off19 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1236 : Index := Scalar.indexCast v68
  let c1920 : Index := 1920#32
  ![v1236.toNat, 1920]
def k1_off20 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1240 : Index := Scalar.indexCast v68
  let c256_442 : Index := 256#32
  ![v1240.toNat, 256]
def k1_off21 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1338 : Index := Scalar.indexCast v68
  let c2048 : Index := 2048#32
  ![v1338.toNat, 2048]
def k1_off22 (k1_t1 : Fin k1_t1_loop.trips) : Fin 2 → Nat :=
  let c0_i32 : BitVec 32 := 0#32
  let c1_i32 : BitVec 32 := 1#32
  let arg12 : BitVec 32 := Scf.iv c0_i32 c1_i32 k1_t1
  let c16_i32 : BitVec 32 := 16#32
  let v66 : BitVec 32 := Scalar.muli arg12 c16_i32
  let v68 : BitVec 32 := v66
  let v1421 : Index := Scalar.indexCast v68
  let c2176 : Index := 2176#32
  ![v1421.toNat, 2176]
@[reducible] def k1_t2_loop : Scf.Loop 32 :=
  let c0_i32_18 : BitVec 32 := 0#32
  let c12_i32 : BitVec 32 := 12#32
  let v65 : BitVec 32 := Scalar.addi c0_i32_18 c12_i32
  let c1_i32_19 : BitVec 32 := 1#32
  ⟨c0_i32_18, v65, c1_i32_19⟩
def k1_mult2 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c0_i32_21 : BitVec 32 := 0#32
  let v67 : BitVec 1 := Scalar.cmpi .sgt arg12 c0_i32_21
  let v68 : BitVec 32 := Scalar.extui v67
  let c0_i32_22 : BitVec 32 := 0#32
  let v69 : BitVec 1 := Scalar.cmpi .slt arg12 c0_i32_22
  let v70 : BitVec 32 := Scalar.extui v69
  let v71 : BitVec 32 := Scalar.subi v68 v70
  let c2_i32 : BitVec 32 := 2#32
  let c0_i32_23 : BitVec 32 := 0#32
  let v72 : BitVec 1 := Scalar.cmpi .sgt c2_i32 c0_i32_23
  let v73 : BitVec 32 := Scalar.extui v72
  let c0_i32_24 : BitVec 32 := 0#32
  let v74 : BitVec 1 := Scalar.cmpi .slt c2_i32 c0_i32_24
  let v75 : BitVec 32 := Scalar.extui v74
  let v76 : BitVec 32 := Scalar.subi v73 v75
  let v77 : BitVec 1 := Scalar.cmpi .ne v71 v76
  let v78 : BitVec 32 := Scalar.remsi arg12 c2_i32
  let c0_i32_25 : BitVec 32 := 0#32
  let v79 : BitVec 1 := Scalar.cmpi .ne v78 c0_i32_25
  let v80 : BitVec 1 := Scalar.andi v77 v79
  let v66 : BitVec 32 := Scalar.divsi arg12 c2_i32
  let c1_i32_26 : BitVec 32 := 1#32
  let v81 : BitVec 32 := Scalar.subi v66 c1_i32_26
  let v82 : BitVec 32 := Scalar.select v80 v81 v66
  let c256_i32 : BitVec 32 := 256#32
  let v83 : BitVec 32 := Scalar.muli v82 c256_i32
  v83
def k1_mult3 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  v95
def k1_off23 (k1_t2 : Fin k1_t2_loop.trips) : Fin 2 → Nat :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let v97 : Index := Scalar.indexCast v96
  let c0_33 : Index := 0#32
  ![v97.toNat, 0]
def k1_off24 (k1_t2 : Fin k1_t2_loop.trips) : Fin 2 → Nat :=
  let c0_i32_18 : BitVec 32 := 0#32
  let c1_i32_19 : BitVec 32 := 1#32
  let arg12 : BitVec 32 := Scf.iv c0_i32_18 c1_i32_19 k1_t2
  let c0_i32_21 : BitVec 32 := 0#32
  let v67 : BitVec 1 := Scalar.cmpi .sgt arg12 c0_i32_21
  let v68 : BitVec 32 := Scalar.extui v67
  let c0_i32_22 : BitVec 32 := 0#32
  let v69 : BitVec 1 := Scalar.cmpi .slt arg12 c0_i32_22
  let v70 : BitVec 32 := Scalar.extui v69
  let v71 : BitVec 32 := Scalar.subi v68 v70
  let c2_i32 : BitVec 32 := 2#32
  let c0_i32_23 : BitVec 32 := 0#32
  let v72 : BitVec 1 := Scalar.cmpi .sgt c2_i32 c0_i32_23
  let v73 : BitVec 32 := Scalar.extui v72
  let c0_i32_24 : BitVec 32 := 0#32
  let v74 : BitVec 1 := Scalar.cmpi .slt c2_i32 c0_i32_24
  let v75 : BitVec 32 := Scalar.extui v74
  let v76 : BitVec 32 := Scalar.subi v73 v75
  let v77 : BitVec 1 := Scalar.cmpi .ne v71 v76
  let v78 : BitVec 32 := Scalar.remsi arg12 c2_i32
  let c0_i32_25 : BitVec 32 := 0#32
  let v79 : BitVec 1 := Scalar.cmpi .ne v78 c0_i32_25
  let v80 : BitVec 1 := Scalar.andi v77 v79
  let v66 : BitVec 32 := Scalar.divsi arg12 c2_i32
  let c1_i32_26 : BitVec 32 := 1#32
  let v81 : BitVec 32 := Scalar.subi v66 c1_i32_26
  let v82 : BitVec 32 := Scalar.select v80 v81 v66
  let c256_i32 : BitVec 32 := 256#32
  let v83 : BitVec 32 := Scalar.muli v82 c256_i32
  let v84 : BitVec 32 := v83
  let v99 : Index := Scalar.indexCast v84
  let c0_34 : Index := 0#32
  ![v99.toNat, 0]
def k1_off25 (k1_t2 : Fin k1_t2_loop.trips) (c0_i32_39 : BitVec 32) : Fin 2 → Nat :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let v107 : BitVec 32 := Scalar.addi v96 c0_i32_39
  let v108 : Index := Scalar.indexCast v107
  let c0_40 : Index := 0#32
  ![v108.toNat, 0]
def k1_off26 (k1_t2 : Fin k1_t2_loop.trips) (c0_i32_934 : BitVec 32) : Fin 2 → Nat :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c4_i32 : BitVec 32 := 4#32
  let v2556 : BitVec 32 := Scalar.muli v94 c4_i32
  let v2557 : BitVec 32 := Scalar.addi v2556 c0_i32_934
  let v2558 : Index := Scalar.indexCast v2557
  let c0_935 : Index := 0#32
  ![v2558.toNat, 0]
def k1_mult4 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c0_i32_937 : BitVec 32 := 0#32
  let v2565 : BitVec 32 := Scalar.addi v96 c0_i32_937
  v2565
def k1_off27 (k1_t2 : Fin k1_t2_loop.trips) (c0_i32_938 : BitVec 32) (c0_i32_937 : BitVec 32) : Fin 2 → Nat :=
  let c0_i32_18 : BitVec 32 := 0#32
  let c1_i32_19 : BitVec 32 := 1#32
  let arg12 : BitVec 32 := Scf.iv c0_i32_18 c1_i32_19 k1_t2
  let c0_i32_21 : BitVec 32 := 0#32
  let v67 : BitVec 1 := Scalar.cmpi .sgt arg12 c0_i32_21
  let v68 : BitVec 32 := Scalar.extui v67
  let c0_i32_22 : BitVec 32 := 0#32
  let v69 : BitVec 1 := Scalar.cmpi .slt arg12 c0_i32_22
  let v70 : BitVec 32 := Scalar.extui v69
  let v71 : BitVec 32 := Scalar.subi v68 v70
  let c2_i32 : BitVec 32 := 2#32
  let c0_i32_23 : BitVec 32 := 0#32
  let v72 : BitVec 1 := Scalar.cmpi .sgt c2_i32 c0_i32_23
  let v73 : BitVec 32 := Scalar.extui v72
  let c0_i32_24 : BitVec 32 := 0#32
  let v74 : BitVec 1 := Scalar.cmpi .slt c2_i32 c0_i32_24
  let v75 : BitVec 32 := Scalar.extui v74
  let v76 : BitVec 32 := Scalar.subi v73 v75
  let v77 : BitVec 1 := Scalar.cmpi .ne v71 v76
  let v78 : BitVec 32 := Scalar.remsi arg12 c2_i32
  let c0_i32_25 : BitVec 32 := 0#32
  let v79 : BitVec 1 := Scalar.cmpi .ne v78 c0_i32_25
  let v80 : BitVec 1 := Scalar.andi v77 v79
  let v66 : BitVec 32 := Scalar.divsi arg12 c2_i32
  let c1_i32_26 : BitVec 32 := 1#32
  let v81 : BitVec 32 := Scalar.subi v66 c1_i32_26
  let v82 : BitVec 32 := Scalar.select v80 v81 v66
  let c256_i32 : BitVec 32 := 256#32
  let v83 : BitVec 32 := Scalar.muli v82 c256_i32
  let v84 : BitVec 32 := v83
  let v2568 : BitVec 32 := Scalar.addi v84 c0_i32_938
  let v2569 : Index := Scalar.indexCast v2568
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let v2565 : BitVec 32 := Scalar.addi v96 c0_i32_937
  let v2566 : BitVec 32 := v2565
  let v2570 : Index := Scalar.indexCast v2566
  ![v2569.toNat, v2570.toNat]
def k1_mult5 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c128_i32_961 : BitVec 32 := 128#32
  let v2599 : BitVec 32 := Scalar.addi v96 c128_i32_961
  v2599
def k1_mult6 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c256_i32_985 : BitVec 32 := 256#32
  let v2633 : BitVec 32 := Scalar.addi v96 c256_i32_985
  v2633
def k1_mult7 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c384_i32_1008 : BitVec 32 := 384#32
  let v2667 : BitVec 32 := Scalar.addi v96 c384_i32_1008
  v2667
def k1_mult8 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c0_i32_1039 : BitVec 32 := 0#32
  let v2701 : BitVec 32 := Scalar.addi v96 c0_i32_1039
  v2701
def k1_mult9 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c128_i32_1063 : BitVec 32 := 128#32
  let v2735 : BitVec 32 := Scalar.addi v96 c128_i32_1063
  v2735
def k1_mult10 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c256_i32_1087 : BitVec 32 := 256#32
  let v2769 : BitVec 32 := Scalar.addi v96 c256_i32_1087
  v2769
def k1_mult11 (k1_t2 : Fin k1_t2_loop.trips) : BitVec 32 :=
  let c0_i32_18 : BitVec 32 := 0#32
  let c1_i32_19 : BitVec 32 := 1#32
  let arg12 : BitVec 32 := Scf.iv c0_i32_18 c1_i32_19 k1_t2
  let c2_i32_27 : BitVec 32 := 2#32
  let c0_i32_28 : BitVec 32 := 0#32
  let v85 : BitVec 1 := Scalar.cmpi .eq c2_i32_27 c0_i32_28
  let c1_i32_29 : BitVec 32 := 1#32
  let v86 : BitVec 32 := Scalar.select v85 c1_i32_29 c2_i32_27
  let v87 : BitVec 32 := Scalar.remsi arg12 v86
  let c0_i32_31 : BitVec 32 := 0#32
  let v89 : BitVec 1 := Scalar.cmpi .slt v87 c0_i32_31
  let c0_i32_32 : BitVec 32 := 0#32
  let v90 : BitVec 1 := Scalar.cmpi .slt v86 c0_i32_32
  let v91 : BitVec 1 := Scalar.xori v89 v90
  let c0_i32_30 : BitVec 32 := 0#32
  let v88 : BitVec 1 := Scalar.cmpi .ne v87 c0_i32_30
  let v92 : BitVec 1 := Scalar.andi v91 v88
  let v93 : BitVec 32 := Scalar.addi v87 v86
  let v94 : BitVec 32 := Scalar.select v92 v93 v87
  let c512_i32 : BitVec 32 := 512#32
  let v95 : BitVec 32 := Scalar.muli v94 c512_i32
  let v96 : BitVec 32 := v95
  let c384_i32_1111 : BitVec 32 := 384#32
  let v2803 : BitVec 32 := Scalar.addi v96 c384_i32_1111
  v2803
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x288 .i16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1536x2304 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1536x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F]
-- ==== ReferenceIdeal.lean ====
abbrev S6x256x2304 : Shape := ⟨3, ![6, 256, 2304]⟩
abbrev S9216x288 : Shape := ⟨2, ![9216, 288]⟩
abbrev S9216 : Shape := ⟨1, ![9216]⟩
abbrev S9216x9 : Shape := ⟨2, ![9216, 9]⟩
abbrev S2304 : Shape := ⟨1, ![2304]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x1x2304 : Shape := ⟨3, ![1, 1, 2304]⟩
abbrev S6x256x18x128 : Shape := ⟨4, ![6, 256, 18, 128]⟩
abbrev S9216x9x32 : Shape := ⟨3, ![9216, 9, 32]⟩
abbrev S9216x9x31 : Shape := ⟨3, ![9216, 9, 31]⟩
abbrev S9216x9x1 : Shape := ⟨3, ![9216, 9, 1]⟩
abbrev S8 : Shape := ⟨1, ![8]⟩
abbrev S9216x9x32x1 : Shape := ⟨4, ![9216, 9, 32, 1]⟩
abbrev S1x1x1x8 : Shape := ⟨4, ![1, 1, 1, 8]⟩
abbrev S9216x9x32x8 : Shape := ⟨4, ![9216, 9, 32, 8]⟩
abbrev S9216x9x1x1 : Shape := ⟨4, ![9216, 9, 1, 1]⟩
abbrev S9216x2304 : Shape := ⟨2, ![9216, 2304]⟩
abbrev S6x256x9216 : Shape := ⟨3, ![6, 256, 9216]⟩
abbrev S1x1x9216 : Shape := ⟨3, ![1, 1, 9216]⟩
abbrev S6x256x72x128 : Shape := ⟨4, ![6, 256, 72, 128]⟩

abbrev nBuf : Space → Nat
  | .hbm => 153
  | .vmem => 0
  | .smem => 0
  | _ => 0

abbrev hbmTy0_0 (i : Nat) : BufTy := match i % 128 with
  | 0 => ⟨S6x256x2304, .bf16⟩
  | 1 => ⟨S9216x288, .i16⟩
  | 2 => ⟨S9216, .f32⟩
  | 3 => ⟨S9216x9, .f32⟩
  | 4 => ⟨S2304, .f32⟩
  | 5 => ⟨S9216, .f32⟩
  | 6 => ⟨S128, .i32⟩
  | 7 => ⟨S128x1, .i32⟩
  | 8 => ⟨S1x128, .i32⟩
  | 9 => ⟨S128x128, .i32⟩
  | 10 => ⟨S128x128, .i32⟩
  | 11 => ⟨S128x128, .i32⟩
  | 12 => ⟨S128x128, .i32⟩
  | 13 => ⟨S_, .i32⟩
  | 14 => ⟨S128x128, .i32⟩
  | 15 => ⟨S128x128, .i32⟩
  | 16 => ⟨S_, .i32⟩
  | 17 => ⟨S128x128, .i32⟩
  | 18 => ⟨S128x128, .i32⟩
  | 19 => ⟨S_, .i32⟩
  | 20 => ⟨S128x128, .i32⟩
  | 21 => ⟨S128x128, .i32⟩
  | 22 => ⟨S128x128, .f32⟩
  | 23 => ⟨S6x256x2304, .f32⟩
  | 24 => ⟨S1x1x2304, .f32⟩
  | 25 => ⟨S6x256x2304, .f32⟩
  | 26 => ⟨S6x256x2304, .f32⟩
  | 27 => ⟨S6x256x18x128, .f32⟩
  | 28 => ⟨S6x256x18x128, .f32⟩
  | 29 => ⟨S_, .f32⟩
  | 30 => ⟨S6x256x18x128, .f32⟩
  | 31 => ⟨S6x256x18x128, .f32⟩
  | 32 => ⟨S6x256x2304, .f32⟩
  | 33 => ⟨S6x256x2304, .bf16⟩
  | 34 => ⟨S9216x288, .i32⟩
  | 35 => ⟨S9216x9x32, .i32⟩
  | 36 => ⟨S9216x9x31, .i32⟩
  | 37 => ⟨S9216x9x1, .i32⟩
  | 38 => ⟨S9216x9x32, .i32⟩
  | 39 => ⟨S8, .i32⟩
  | 40 => ⟨S_, .i32⟩
  | 41 => ⟨S8, .i32⟩
  | 42 => ⟨S8, .i32⟩
  | 43 => ⟨S9216x9x32x1, .i32⟩
  | 44 => ⟨S1x1x1x8, .i32⟩
  | 45 => ⟨S9216x9x32x8, .i32⟩
  | 46 => ⟨S9216x9x32x8, .i32⟩
  | 47 => ⟨S9216x9x32x8, .i32⟩
  | 48 => ⟨S9216x9x32x1, .i32⟩
  | 49 => ⟨S_, .i32⟩
  | 50 => ⟨S8, .i32⟩
  | 51 => ⟨S8, .i32⟩
  | 52 => ⟨S1x1x1x8, .i32⟩
  | 53 => ⟨S9216x9x32x8, .i32⟩
  | 54 => ⟨S9216x9x32x8, .i32⟩
  | 55 => ⟨S9216x9x32x8, .i32⟩
  | 56 => ⟨S9216x9x32x8, .i32⟩
  | 57 => ⟨S_, .i32⟩
  | 58 => ⟨S9216x9x32x8, .i32⟩
  | 59 => ⟨S9216x9x32x8, .i32⟩
  | 60 => ⟨S9216x9, .bf16⟩
  | 61 => ⟨S9216x9x1x1, .bf16⟩
  | 62 => ⟨S_, .i32⟩
  | 63 => ⟨S9216x9x32x8, .i32⟩
  | 64 => ⟨S9216x9x32x8, .i32⟩
  | 65 => ⟨S_, .i32⟩
  | 66 => ⟨S9216x9x32x8, .i32⟩
  | 67 => ⟨S9216x9x32x8, .i32⟩
  | 68 => ⟨S_, .i32⟩
  | 69 => ⟨S9216x9x32x8, .i32⟩
  | 70 => ⟨S9216x9x32x8, .i32⟩
  | 71 => ⟨S_, .i32⟩
  | 72 => ⟨S9216x9x32x8, .i32⟩
  | 73 => ⟨S9216x9x32x8, .i32⟩
  | 74 => ⟨S_, .i32⟩
  | 75 => ⟨S9216x9x32x8, .i32⟩
  | 76 => ⟨S9216x9x32x8, .i32⟩
  | 77 => ⟨S_, .i32⟩
  | 78 => ⟨S9216x9x32x8, .i32⟩
  | 79 => ⟨S9216x9x32x8, .i32⟩
  | 80 => ⟨S_, .i32⟩
  | 81 => ⟨S9216x9x32x8, .i32⟩
  | 82 => ⟨S9216x9x32x8, .i32⟩
  | 83 => ⟨S_, .i32⟩
  | 84 => ⟨S9216x9x32x8, .i32⟩
  | 85 => ⟨S9216x9x32x8, .i32⟩
  | 86 => ⟨S_, .i32⟩
  | 87 => ⟨S9216x9x32x8, .i32⟩
  | 88 => ⟨S9216x9x32x8, .i32⟩
  | 89 => ⟨S_, .i32⟩
  | 90 => ⟨S9216x9x32x8, .i32⟩
  | 91 => ⟨S9216x9x32x8, .i32⟩
  | 92 => ⟨S_, .i32⟩
  | 93 => ⟨S9216x9x32x8, .i32⟩
  | 94 => ⟨S9216x9x32x8, .i32⟩
  | 95 => ⟨S_, .i32⟩
  | 96 => ⟨S9216x9x32x8, .i32⟩
  | 97 => ⟨S9216x9x32x8, .i32⟩
  | 98 => ⟨S9216x9x32x8, .i32⟩
  | 99 => ⟨S_, .i32⟩
  | 100 => ⟨S9216x9x32x8, .i32⟩
  | 101 => ⟨S9216x9x32x8, .i32⟩
  | 102 => ⟨S9216x9x32x8, .i32⟩
  | 103 => ⟨S9216x9x32x8, .f32⟩
  | 104 => ⟨S_, .i32⟩
  | 105 => ⟨S9216x9x32x8, .i32⟩
  | 106 => ⟨S9216x9x32x8, .i32⟩
  | 107 => ⟨S_, .i32⟩
  | 108 => ⟨S9216x9x32x8, .i32⟩
  | 109 => ⟨S9216x9x32x8, .i32⟩
  | 110 => ⟨S_, .i32⟩
  | 111 => ⟨S9216x9x32x8, .i32⟩
  | 112 => ⟨S9216x9x32x8, .i32⟩
  | 113 => ⟨S_, .i32⟩
  | 114 => ⟨S9216x9x32x8, .i32⟩
  | 115 => ⟨S9216x9x32x8, .i32⟩
  | 116 => ⟨S_, .i32⟩
  | 117 => ⟨S9216x9x32x8, .i32⟩
  | 118 => ⟨S9216x9x32x8, .i32⟩
  | 119 => ⟨S_, .i32⟩
  | 120 => ⟨S9216x9x32x8, .i32⟩
  | 121 => ⟨S9216x9x32x8, .i32⟩
  | 122 => ⟨S_, .i32⟩
  | 123 => ⟨S9216x9x32x8, .i32⟩
  | 124 => ⟨S9216x9x32x8, .i32⟩
  | 125 => ⟨S_, .i32⟩
  | 126 => ⟨S9216x9x32x8, .i32⟩
  | 127 => ⟨S9216x9x32x8, .i32⟩
  | _ => ⟨S6x256x2304, .bf16⟩

abbrev hbmTy0_1 (i : Nat) : BufTy := match i % 128 with
  | 0 => ⟨S9216x9x32x8, .i32⟩
  | 1 => ⟨S_, .i32⟩
  | 2 => ⟨S9216x9x32x8, .i32⟩
  | 3 => ⟨S9216x9x32x8, .i32⟩
  | 4 => ⟨S9216x9x32x8, .i32⟩
  | 5 => ⟨S9216x9x32x8, .f32⟩
  | 6 => ⟨S9216x9x32x8, .f32⟩
  | 7 => ⟨S9216x9x32x8, .bf16⟩
  | 8 => ⟨S9216x9x32x8, .bf16⟩
  | 9 => ⟨S9216x9x32x8, .bf16⟩
  | 10 => ⟨S9216x2304, .bf16⟩
  | 11 => ⟨S6x256x9216, .f32⟩
  | 12 => ⟨S1x1x9216, .f32⟩
  | 13 => ⟨S6x256x9216, .f32⟩
  | 14 => ⟨S6x256x9216, .f32⟩
  | 15 => ⟨S6x256x72x128, .f32⟩
  | 16 => ⟨S6x256x72x128, .f32⟩
  | 17 => ⟨S_, .f32⟩
  | 18 => ⟨S6x256x72x128, .f32⟩
  | 19 => ⟨S6x256x72x128, .f32⟩
  | 20 => ⟨S6x256x9216, .f32⟩
  | 21 => ⟨S1x1x9216, .f32⟩
  | 22 => ⟨S6x256x9216, .f32⟩
  | 23 => ⟨S6x256x9216, .f32⟩
  | 24 => ⟨S6x256x9216, .bf16⟩
  | _ => ⟨S6x256x2304, .bf16⟩

abbrev hbmTy (i : Nat) : BufTy := match i / 128 with
  | 0 => hbmTy0_0 i
  | 1 => hbmTy0_1 i
  | _ => ⟨S6x256x2304, .bf16⟩

abbrev bufTy : (tb : Table) → Fin (tcTables nBuf tb) → BufTy
  | .hbm, ⟨i, _⟩ => hbmTy i
  | _, _ => ⟨S6x256x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_c_19 : Ref sig .tc := ⟨.hbm, 107, rfl⟩
abbrev main_v78 : Ref sig .tc := ⟨.hbm, 108, rfl⟩
abbrev main_v79 : Ref sig .tc := ⟨.hbm, 109, rfl⟩
abbrev main_c_20 : Ref sig .tc := ⟨.hbm, 110, rfl⟩
abbrev main_v80 : Ref sig .tc := ⟨.hbm, 111, rfl⟩
abbrev main_v81 : Ref sig .tc := ⟨.hbm, 112, rfl⟩
abbrev main_c_21 : Ref sig .tc := ⟨.hbm, 113, rfl⟩
abbrev main_v82 : Ref sig .tc := ⟨.hbm, 114, rfl⟩
abbrev main_v83 : Ref sig .tc := ⟨.hbm, 115, rfl⟩
abbrev main_c_22 : Ref sig .tc := ⟨.hbm, 116, rfl⟩
abbrev main_v84 : Ref sig .tc := ⟨.hbm, 117, rfl⟩
abbrev main_v85 : Ref sig .tc := ⟨.hbm, 118, rfl⟩
abbrev main_c_23 : Ref sig .tc := ⟨.hbm, 119, rfl⟩
abbrev main_v86 : Ref sig .tc := ⟨.hbm, 120, rfl⟩
abbrev main_v87 : Ref sig .tc := ⟨.hbm, 121, rfl⟩
abbrev main_c_24 : Ref sig .tc := ⟨.hbm, 122, rfl⟩
abbrev main_v88 : Ref sig .tc := ⟨.hbm, 123, rfl⟩
abbrev main_v89 : Ref sig .tc := ⟨.hbm, 124, rfl⟩
abbrev main_c_25 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_26 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_27 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== Proof.KRegion0.lean ====
/- The first call of the program (`cc0_rotate_in`) at the buffer contents `V` it is entered with: its blocks, what its
   body leaves in each output's buffer, and the body obligation of its pipeline. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_in` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S256x2304 .bf16 := (Memref.whole cc0_stg2_0 : Memref sig .tc .vmem S256x2304 .bf16).view
/-- One staging buffer of output window 3, through which its contents are stated (`View.read_writes_of_cover`: the
    choice does not matter). -/
abbrev VO0_3 : View sig .tc .vmem S256x2304 .bf16 := (Memref.whole cc0_stg3_0 : Memref sig .tc .vmem S256x2304 .bf16).view
/-- Each window's current staging memref at point `t`, spelled as the pipeline passes it (`bodyAt0`), and its wholeness. -/
abbrev ms0_0 (t : Fin cfg0.N) : Memref sig .tc .vmem S256x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2304 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x256 .bf16 := Memref.whole cc0_scratch0
abbrev scM0_1 : Memref sig .tc .vmem S256x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) :
    Σ' (L2 : List (View.Piece (Elt F) S256x2304 .bf16)), Σ' (L3 : List (View.Piece (Elt F) S256x2304 .bf16)), Σ' (LT0 : List (View.Piece (Elt F) S256x256 .bf16)), { LT1 : List (View.Piece (Elt F) S256x256 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0) ∗ (∃ f, arg6.view.loc (c : Thread nD τ) ↦[arg6.view.set]{fullShare} arg6.view.writes (Elt F) f LT1)) -∗ K ⟨⟩))
          ⊢ wp frame (wpE (defs₀ (F := F)) Variants.none c none) E (cc0_rotate_in i arg1 harg1 arg2 harg2 arg3 harg3 arg4 harg4 arg5 harg5 arg6 harg6) K } := by
  refine ⟨?_, ?_, ?_, ?_, fun E K => ?run⟩
  case run =>
    simp only [cc0_rotate_in_eq_skeleton]; unfold cc0_rotate_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

/-- The run's pieces for output 2 tile its block (9 stores of `S256x256`, checked by the kernel's evaluation: Lib/Ring.lean `Piece.tiledL`, linear in the pieces, through a loop's `@[irreducible]` trip theorem too), so they cover it. -/
theorem cover0_A_2 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) (y : S256x2304.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S256x256.size (by sl_kernel_rfl) y

/-- What the run leaves in output 2's staging buffer: its pieces read back over junk. -/
def out0_A_2 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) : Vec F S256x2304 .bf16 :=
  VO0_2.read (Elt F) (VO0_2.writes (Elt F) VO0_2.junk (kernelRun0_A c i arg1 harg1 arg2 harg2 arg3 harg3 arg4 harg4 arg5 harg5 arg6 harg6 x0 x1).1)

/-- The run's pieces for output 3 are of SEVERAL sizes (17 stores of `S256x128`, `S256x256`): cut into blocks of `![256, 128]` they tile its block (checked by the kernel's evaluation: Lib/Ring.lean `Piece.tiledBy`), so they cover it. -/
theorem cover0_A_3 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) (y : S256x2304.Idx) :
    ∃ pc ∈ (kernelRun0_A c i arg1 harg1 arg2 harg2 arg3 harg3 arg4 harg4 arg5 harg5 arg6 harg6 x0 x1).2.1, y ∈ pc.1.set :=
  View.cover_of_tiledBy (kernelRun0_A c i arg1 harg1 arg2 harg2 arg3 harg3 arg4 harg4 arg5 harg5 arg6 harg6 x0 x1).2.1 ![256, 128] (by sl_kernel_rfl) y

/-- What the run leaves in output 3's staging buffer: its pieces read back over junk. -/
def out0_A_3 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) : Vec F S256x2304 .bf16 :=
  VO0_3.read (Elt F) (VO0_3.writes (Elt F) VO0_3.junk (kernelRun0_A c i arg1 harg1 arg2 harg2 arg3 harg3 arg4 harg4 arg5 harg5 arg6 harg6 x0 x1).2.1)

/-! ## What the outputs hold after each point -/

/-- What the outputs' staging buffers hold after the body at point `t` (as a tuple, in window order): the run's contents at
    the point's memrefs and input blocks. -/
def outsAt0 (c : Dev nD) (t : Fin cfg0.N) : Vec F S256x2304 .bf16 × Vec F S256x2304 .bf16 :=
  (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_2 out0_A_3; (try dsimp only)
  iintro ⟨⟨⟨HS0, HS1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk0 V c 0 t) (iblk0 V c 1 t)).2.2.2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, ⟨%fT0, HS0⟩, ⟨%fT1, HS1⟩⟩
  isplitl [HS0 HS1 HR2 HR3 HR4 HR5 HR6 HR7 HR8 HR9 HR10 HR11 HR12 HR13 HR14 HR15 HR16 HR17 Hg]
  · isplitl [HS0 HS1 HR2 HR3 HR4 HR5 HR6 HR7 HR8 HR9 HR10 HR11 HR12 HR13 HR14 HR15 HR16 HR17]
    · isplitl [HS0]
      · iexists _; unfold owns; iexists _; isplitr
        swap; · iexact HS0
        ipureintro; rfl
      isplitl [HS1]
      · iexists _; unfold owns; iexists _; isplitr
        swap; · iexact HS1
        ipureintro; rfl
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      iexact HR17
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  unfold owns; iexists _; isplitr
  swap; · iexact H3
  ipureintro; exact View.read_writes_of_cover _ _ _ _ _ (cover0_A_3 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Whole

end
-- ==== Proof.KBody1.lean ====
/- The run of the second call's body (`cc1_trellis_linear`) on whole buffers: the pieces it leaves in the output's buffer, as a
   function of the contents its buffers start from. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1 (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
    (x0 : Vec F S1024x288 .i16) (x1 : Vec F S1024x9 .f32) (x2 : Vec F S8x128 .f32) (x3 : Vec F S8x128 .f32) (x4 : Vec F S1536x2304 .bf16)
    (f5 : BufTy.Contents (Elt F) arg6.view.ty) (fs0 : BufTy.Contents (Elt F) arg7.view.ty) (fs1 : BufTy.Contents (Elt F) arg8.view.ty) (fs2 : BufTy.Contents (Elt F) arg9.view.ty) (fs3 : BufTy.Contents (Elt F) arg10.view.ty) (fs4 : BufTy.Contents (Elt F) arg11.view.ty) :
    { L5 : List (View.Piece (Elt F) S1536x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3) ∗ (arg11.view.loc (c : Thread nD τ) ↦[arg11.view.set]{fullShare} fs4)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) f5 L5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1_trellis_linear i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_trellis_linear_eq_skeleton]; unfold cc1_trellis_linear_skel
    simp only [k1_part111_eq_skeleton]
    unfold owns
    iintro ⟨⟨%f0, %hf0, H0⟩, ⟨%f1, %hf1, H1⟩, ⟨%f2, %hf2, H2⟩, ⟨%f3, %hf3, H3⟩, ⟨%f4, %hf4, H4⟩, H5, HS0, HS1, HS2, HS3, HS4, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Whole

end
-- ==== Proof.KBody1Out.lean ====
/- What the second call's body leaves in the output's buffer, as a function of its input blocks alone: the scratch buffers'
   first contents and the output buffer's are nowhere read. Hence the body's triple with the output at `out1`. -/
module

public import proofs.«01_k».proof.Proof.KBody1

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
variable (x0 : Vec F S1024x288 .i16) (x1 : Vec F S1024x9 .f32) (x2 : Vec F S8x128 .f32) (x3 : Vec F S8x128 .f32) (x4 : Vec F S1536x2304 .bf16)

/-- The decoded weights' pieces, one list over the 64 trips of the decoding loop. -/
def wtL : List (View.Piece (Elt F) S1024x2304 .bf16) :=
  pb_k1_t1 Variants.none c none i arg1 harg1 arg2 harg2 arg3 harg3 arg4 harg4 arg5 harg5 arg6 harg6 arg7 harg7 arg8 harg8 arg9 harg9 arg10 harg10 arg11 harg11 (harg1.unread x0) (harg2.unread x1) k1_t1_loop.trips

/-- They cover the weights' scratch buffer. -/
theorem wtL_cover (y : S1024x2304.Idx) : ∃ p ∈ wtL (F := F) c i arg1 harg1 arg2 harg2 arg3 harg3 arg4 harg4 arg5 harg5 arg6 harg6 arg7 harg7 arg8 harg8 arg9 harg9 arg10 harg10 arg11 harg11 x0 x1, y ∈ p.1.set :=
  View.cover_of_tiledL (wtL (F := F) c i arg1 harg1 arg2 harg2 arg3 harg3 arg4 harg4 arg5 harg5 arg6 harg6 arg7 harg7 arg8 harg8 arg9 harg9 arg10 harg10 arg11 harg11 x0 x1) S16x128.size (by sl_kernel_rfl) y

/-- The weights' scratch buffer after the decoding loop, and the row scales' after the transposes. -/
def wtBuf : BufTy.Contents (Elt F) arg7.view.ty := harg7.unread (View.canon (wtL (F := F) c i arg1 harg1 arg2 harg2 arg3 harg3 arg4 harg4 arg5 harg5 arg6 harg6 arg7 harg7 arg8 harg8 arg9 harg9 arg10 harg10 arg11 harg11 x0 x1))
def rsBuf : BufTy.Contents (Elt F) arg8.view.ty := arg8.view.writes (Elt F) arg8.view.junk (kernelRun1.sl.HS1_8 c arg3 harg3 x2)

theorem wtBuf_eq (f : BufTy.Contents (Elt F) arg7.view.ty) :
    arg7.view.writes (Elt F) f (wtL (F := F) c i arg1 harg1 arg2 harg2 arg3 harg3 arg4 harg4 arg5 harg5 arg6 harg6 arg7 harg7 arg8 harg8 arg9 harg9 arg10 harg10 arg11 harg11 x0 x1) = wtBuf (F := F) c i arg1 harg1 arg2 harg2 arg3 harg3 arg4 harg4 arg5 harg5 arg6 harg6 arg7 harg7 arg8 harg8 arg9 harg9 arg10 harg10 arg11 harg11 x0 x1 :=
  harg7.eq_unread (View.read_writes_eq_canon _ _ _ (wtL_cover c i arg1 harg1 arg2 harg2 arg3 harg3 arg4 harg4 arg5 harg5 arg6 harg6 arg7 harg7 arg8 harg8 arg9 harg9 arg10 harg10 arg11 harg11 x0 x1))

/-- One trip's output pieces do not read the buffers it writes. -/
def tripOut (k : Fin k1_t2_loop.trips) (X4 : BufTy.Contents (Elt F) arg4.view.ty) (X5 : BufTy.Contents (Elt F) arg5.view.ty) (X7 : BufTy.Contents (Elt F) arg7.view.ty) (X8 : BufTy.Contents (Elt F) arg8.view.ty) :
    List (View.Piece (Elt F) S1536x1024 .bf16) :=
  (trip_k1_t2 (F := F) Variants.none c none i arg1 harg1 arg2 harg2 arg3 harg3 arg4 harg4 arg5 harg5 arg6 harg6 arg7 harg7 arg8 harg8 arg9 harg9 arg10 harg10 arg11 harg11 X4 X5 X7 X8 k).1 arg6.view.junk arg9.view.junk arg10.view.junk arg11.view.junk

theorem tripOut_eq (k : Fin k1_t2_loop.trips) (X4 : BufTy.Contents (Elt F) arg4.view.ty) (X5 : BufTy.Contents (Elt F) arg5.view.ty) (X7 : BufTy.Contents (Elt F) arg7.view.ty) (X8 : BufTy.Contents (Elt F) arg8.view.ty) (f6 f9 f10 f11) :
    (trip_k1_t2 (F := F) Variants.none c none i arg1 harg1 arg2 harg2 arg3 harg3 arg4 harg4 arg5 harg5 arg6 harg6 arg7 harg7 arg8 harg8 arg9 harg9 arg10 harg10 arg11 harg11 X4 X5 X7 X8 k).1 f6 f9 f10 f11 = tripOut (F := F) c i arg1 harg1 arg2 harg2 arg3 harg3 arg4 harg4 arg5 harg5 arg6 harg6 arg7 harg7 arg8 harg8 arg9 harg9 arg10 harg10 arg11 harg11 k X4 X5 X7 X8 := by
  unfold tripOut trip_k1_t2
  rfl

/-- The output's pieces over the first `n` trips. -/
def outsTo (X4 : BufTy.Contents (Elt F) arg4.view.ty) (X5 : BufTy.Contents (Elt F) arg5.view.ty) (X7 : BufTy.Contents (Elt F) arg7.view.ty) (X8 : BufTy.Contents (Elt F) arg8.view.ty) : ℕ → List (View.Piece (Elt F) S1536x1024 .bf16)
  | 0 => []
  | n + 1 => (if h : n < k1_t2_loop.trips then tripOut (F := F) c i arg1 harg1 arg2 harg2 arg3 harg3 arg4 harg4 arg5 harg5 arg6 harg6 arg7 harg7 arg8 harg8 arg9 harg9 arg10 harg10 arg11 harg11 ⟨n, h⟩ X4 X5 X7 X8 else []) ++ outsTo X4 X5 X7 X8 n

theorem pb_eq_outsTo (X4 : BufTy.Contents (Elt F) arg4.view.ty) (X5 : BufTy.Contents (Elt F) arg5.view.ty) (X7 : BufTy.Contents (Elt F) arg7.view.ty) (X8 : BufTy.Contents (Elt F) arg8.view.ty) (f6 f9 f10 f11) :
    ∀ n : ℕ, (pb_k1_t2 (F := F) Variants.none c none i arg1 harg1 arg2 harg2 arg3 harg3 arg4 harg4 arg5 harg5 arg6 harg6 arg7 harg7 arg8 harg8 arg9 harg9 arg10 harg10 arg11 harg11 X4 X5 X7 X8 f6 f9 f10 f11 n).1 = outsTo (F := F) c i arg1 harg1 arg2 harg2 arg3 harg3 arg4 harg4 arg5 harg5 arg6 harg6 arg7 harg7 arg8 harg8 arg9 harg9 arg10 harg10 arg11 harg11 X4 X5 X7 X8 n
  | 0 => rfl
  | n + 1 => by
    by_cases h : n < k1_t2_loop.trips
    · have := pb_k1_t2_succ (F := F) Variants.none c none i arg1 harg1 arg2 harg2 arg3 harg3 arg4 harg4 arg5 harg5 arg6 harg6 arg7 harg7 arg8 harg8 arg9 harg9 arg10 harg10 arg11 harg11 X4 X5 X7 X8 f6 f9 f10 f11 ⟨n, h⟩
      rw [this]
      dsimp only [tripL_k1_t2]
      rw [tripOut_eq, pb_eq_outsTo X4 X5 X7 X8 f6 f9 f10 f11 n]
      conv_rhs => unfold outsTo
      rw [dif_pos h]
    · rw [pb_k1_t2.eq_2]; unfold pb_k1_t2Step; rw [dif_neg h, pb_eq_outsTo X4 X5 X7 X8 f6 f9 f10 f11 n]
      conv_rhs => unfold outsTo
      rw [dif_neg h, List.nil_append]

/-- The output's pieces, of the input blocks. -/
def outL : List (View.Piece (Elt F) S1536x1024 .bf16) :=
  outsTo (F := F) c i arg1 harg1 arg2 harg2 arg3 harg3 arg4 harg4 arg5 harg5 arg6 harg6 arg7 harg7 arg8 harg8 arg9 harg9 arg10 harg10 arg11 harg11 (harg4.unread x3) (harg5.unread x4) (wtBuf (F := F) c i arg1 harg1 arg2 harg2 arg3 harg3 arg4 harg4 arg5 harg5 arg6 harg6 arg7 harg7 arg8 harg8 arg9 harg9 arg10 harg10 arg11 harg11 x0 x1) (rsBuf (F := F) c arg3 harg3 arg8 x2) k1_t2_loop.trips

theorem run_pieces (f5 : BufTy.Contents (Elt F) arg6.view.ty) (fs0 : BufTy.Contents (Elt F) arg7.view.ty) (fs1 : BufTy.Contents (Elt F) arg8.view.ty) (fs2 : BufTy.Contents (Elt F) arg9.view.ty) (fs3 : BufTy.Contents (Elt F) arg10.view.ty) (fs4 : BufTy.Contents (Elt F) arg11.view.ty) :
    (kernelRun1 (F := F) c i arg1 harg1 arg2 harg2 arg3 harg3 arg4 harg4 arg5 harg5 arg6 harg6 arg7 harg7 arg8 harg8 arg9 harg9 arg10 harg10 arg11 harg11 x0 x1 x2 x3 x4 f5 fs0 fs1 fs2 fs3 fs4).1 = outL (F := F) c i arg1 harg1 arg2 harg2 arg3 harg3 arg4 harg4 arg5 harg5 arg6 harg6 arg7 harg7 arg8 harg8 arg9 harg9 arg10 harg10 arg11 harg11 x0 x1 x2 x3 x4 := by
  unfold outL
  rw [← pb_eq_outsTo (f6 := f5) (f9 := fs2) (f10 := fs3) (f11 := fs4), ← wtBuf_eq (f := fs0)]
  rfl

/-- The output's pieces cover its buffer. -/
theorem outL_cover (y : S1536x1024.Idx) : ∃ p ∈ outL (F := F) c i arg1 harg1 arg2 harg2 arg3 harg3 arg4 harg4 arg5 harg5 arg6 harg6 arg7 harg7 arg8 harg8 arg9 harg9 arg10 harg10 arg11 harg11 x0 x1 x2 x3 x4, y ∈ p.1.set :=
  View.cover_of_tiledL (outL (F := F) c i arg1 harg1 arg2 harg2 arg3 harg3 arg4 harg4 arg5 harg5 arg6 harg6 arg7 harg7 arg8 harg8 arg9 harg9 arg10 harg10 arg11 harg11 x0 x1 x2 x3 x4) S128x128.size (by sl_kernel_rfl) y

/-- What the body leaves in the output's buffer. -/
def out1 : Vec F S1536x1024 .bf16 := View.canon (outL (F := F) c i arg1 harg1 arg2 harg2 arg3 harg3 arg4 harg4 arg5 harg5 arg6 harg6 arg7 harg7 arg8 harg8 arg9 harg9 arg10 harg10 arg11 harg11 x0 x1 x2 x3 x4)

/-- The body's triple: the inputs kept, the output at `out1`, the scratch at some contents. -/
theorem run1 (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 (F := F) c i arg1 harg1 arg2 harg2 arg3 harg3 arg4 harg4 arg5 harg5 arg6 harg6 arg7 harg7 arg8 harg8 arg9 harg9 arg10 harg10 arg11 harg11 x0 x1 x2 x3 x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc1_trellis_linear i arg1 harg1 arg2 harg2 arg3 harg3 arg4 harg4 arg5 harg5 arg6 harg6 arg7 harg7 arg8 harg8 arg9 harg9 arg10 harg10 arg11 harg11) K := by
  iintro ⟨H0, H1, H2, H3, H4, ⟨%d5, H5⟩, ⟨%ds0, HS0⟩, ⟨%ds1, HS1⟩, ⟨%ds2, HS2⟩, ⟨%ds3, HS3⟩, ⟨%ds4, HS4⟩, Hk⟩
  unfold owns
  icases H5 with ⟨%f5, -, H5⟩
  icases HS0 with ⟨%fs0, -, HS0⟩
  icases HS1 with ⟨%fs1, -, HS1⟩
  icases HS2 with ⟨%fs2, -, HS2⟩
  icases HS3 with ⟨%fs3, -, HS3⟩
  icases HS4 with ⟨%fs4, -, HS4⟩
  iapply ((kernelRun1 (F := F) c i arg1 harg1 arg2 harg2 arg3 harg3 arg4 harg4 arg5 harg5 arg6 harg6 arg7 harg7 arg8 harg8 arg9 harg9 arg10 harg10 arg11 harg11 x0 x1 x2 x3 x4 f5 fs0 fs1 fs2 fs3 fs4).2 E K)
  unfold owns
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  rw [run_pieces]
  iintro ⟨H0, H1, H2, H3, H4, H5, HS0, HS1, HS2, HS3, HS4⟩
  iapply Hk
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; exact View.read_writes_eq_canon _ _ _ (outL_cover c i arg1 harg1 arg2 harg2 arg3 harg3 arg4 harg4 arg5 harg5 arg6 harg6 arg7 harg7 arg8 harg8 arg9 harg9 arg10 harg10 arg11 harg11 x0 x1 x2 x3 x4)
  isplitl [HS0]; · iexact HS0
  isplitl [HS1]; · iexact HS1
  isplitl [HS2]; · iexact HS2
  isplitl [HS3]; · iexact HS3
  iexact HS4

end Cert.Kernel.Whole

end
-- ==== Proof.KRegion1.lean ====
/- The second call of the program (`cc1_trellis_linear`) at the buffer contents `V` it is entered with: its blocks, what
   its body leaves in the output's buffer, and the body obligation of its pipeline. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.Kernel.Loops
public import proofs.«01_k».proof.Proof.KBody1Out

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_trellis_linear` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S1536x1024 .bf16 := (Memref.whole cc1_stg5_0 : Memref sig .tc .vmem S1536x1024 .bf16).view
/-- Each window's current staging memref at point `t`, spelled as the pipeline passes it (`bodyAt1`), and its wholeness. -/
abbrev ms1_0 (t : Fin cfg1.N) : Memref sig .tc .vmem S1024x288 .i16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x9 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1536x2304 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1536x1024 .bf16 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x2304 .bf16 := Memref.whole cc1_scratch0
abbrev scM1_1 : Memref sig .tc .vmem S1024x128 .f32 := Memref.whole cc1_scratch1
abbrev scM1_2 : Memref sig .tc .vmem S512x256 .f32 := Memref.whole cc1_scratch2
abbrev scM1_3 : Memref sig .tc .vmem S1056x128 .f32 := Memref.whole cc1_scratch3
abbrev scM1_4 : Memref sig .tc .vmem S1152x128 .f32 := Memref.whole cc1_scratch4

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d)) ∗ (∃ r, prngReg c r)) := by
  unfold Pipeline.ΦA; rw [scopedRest1_eq]; simp only [scM1_0, scM1_1, scM1_2, scM1_3, scM1_4, owns_whole]; try rfl

/-! ## What the outputs hold after each point -/

/-- What the outputs' staging buffers hold after the body at point `t`: the run's contents at
    the point's memrefs and input blocks. -/
def outsAt1 (c : Dev nD) (t : Fin cfg1.N) : Vec F S1536x1024 .bf16 :=
  out1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t) (iblk1 V c 2 t) (iblk1 V c 3 t) (iblk1 V c 4 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  iintro ⟨⟨⟨HR0, HR1, HR2, HR3, HR4, HR5, HR6, HR7, HR8, HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run1 c (grid1.coords t) _ _ _ _ _ _ _ _ _ _ _ _ _ _ _ _ _ _ _ _ _ _ (iblk1 V c 0 t) (iblk1 V c 1 t) (iblk1 V c 2 t) (iblk1 V c 3 t) (iblk1 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HR0 HR1 HR2 HR3 HR4 HR5 HR6 HR7 HR8 HS0 HS1 HS2 HS3 HS4 Hg]
  · isplitl [HR0 HR1 HR2 HR3 HR4 HR5 HR6 HR7 HR8 HS0 HS1 HS2 HS3 HS4]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Whole

end
-- ==== Proof.KRun.lean ====
/- The run of the program: the buffer contents between its items, the two calls as segments, and the frame. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KRegion0
public import proofs.«01_k».proof.Proof.KRegion1

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates, nothing
    faulting, and every final state has the argument arrays as launched, the two results at the contents the fold gives them and
    every semaphore counter of the machine at zero: the library's launch over the segments, the last thread state read against
    the final state (`pointsTo_read_all`), each argument by `W5_<arg>`. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v6) = W5 m ρ c (Proc.devRef .tc main_v6)
      ∧ r.2.mem ((c.tc : Thread nD τ).loc main_v7) = W5 m ρ c (Proc.devRef .tc main_v7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       h c _ (mem_uc main_v6 (by decide)),
       h c _ (mem_uc main_v7 (by decide))⟩), funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1⟩, h.2⟩) (run m ρ)

end Cert.Kernel.Whole

end
-- ==== Proof.Region0.lean ====
/- The first call of the program (`cc0_rotate_in`) at the buffer contents `V` it is entered with: its blocks, what its
   body leaves in each output's buffer, and the body obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_in` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S256x2304 .bf16 := (Memref.whole cc0_stg2_0 : Memref sig .tc .vmem S256x2304 .bf16).view
/-- One staging buffer of output window 3, through which its contents are stated (`View.read_writes_of_cover`: the
    choice does not matter). -/
abbrev VO0_3 : View sig .tc .vmem S256x2304 .bf16 := (Memref.whole cc0_stg3_0 : Memref sig .tc .vmem S256x2304 .bf16).view
/-- Each window's current staging memref at point `t`, spelled as the pipeline passes it (`bodyAt0`), and its wholeness. -/
abbrev ms0_0 (t : Fin cfg0.N) : Memref sig .tc .vmem S256x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2304 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x256 .bf16 := Memref.whole cc0_scratch0
abbrev scM0_1 : Memref sig .tc .vmem S256x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) :
    Σ' (L2 : List (View.Piece (Elt F) S256x2304 .bf16)), Σ' (L3 : List (View.Piece (Elt F) S256x2304 .bf16)), Σ' (LT0 : List (View.Piece (Elt F) S256x256 .bf16)), { LT1 : List (View.Piece (Elt F) S256x256 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0) ∗ (∃ f, arg6.view.loc (c : Thread nD τ) ↦[arg6.view.set]{fullShare} arg6.view.writes (Elt F) f LT1)) -∗ K ⟨⟩))
          ⊢ wp frame (wpE (defs₀ (F := F)) Variants.none c none) E (cc0_rotate_in i arg1 harg1 arg2 harg2 arg3 harg3 arg4 harg4 arg5 harg5 arg6 harg6) K } := by
  refine ⟨?_, ?_, ?_, ?_, fun E K => ?run⟩
  case run =>
    simp only [cc0_rotate_in_eq_skeleton]; unfold cc0_rotate_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

/-- The run's pieces for output 2 tile its block (9 stores of `S256x256`, checked by the kernel's evaluation: Lib/Ring.lean `Piece.tiledL`, linear in the pieces, through a loop's `@[irreducible]` trip theorem too), so they cover it. -/
theorem cover0_A_2 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) (y : S256x2304.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S256x256.size (by sl_kernel_rfl) y

/-- What the run leaves in output 2's staging buffer: its pieces read back over junk. -/
def out0_A_2 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) : Vec F S256x2304 .bf16 :=
  VO0_2.read (Elt F) (VO0_2.writes (Elt F) VO0_2.junk (kernelRun0_A c i arg1 harg1 arg2 harg2 arg3 harg3 arg4 harg4 arg5 harg5 arg6 harg6 x0 x1).1)

/-- The run's pieces for output 3 are of SEVERAL sizes (17 stores of `S256x128`, `S256x256`): cut into blocks of `![256, 128]` they tile its block (checked by the kernel's evaluation: Lib/Ring.lean `Piece.tiledBy`), so they cover it. -/
theorem cover0_A_3 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) (y : S256x2304.Idx) :
    ∃ pc ∈ (kernelRun0_A c i arg1 harg1 arg2 harg2 arg3 harg3 arg4 harg4 arg5 harg5 arg6 harg6 x0 x1).2.1, y ∈ pc.1.set :=
  View.cover_of_tiledBy (kernelRun0_A c i arg1 harg1 arg2 harg2 arg3 harg3 arg4 harg4 arg5 harg5 arg6 harg6 x0 x1).2.1 ![256, 128] (by sl_kernel_rfl) y

/-- What the run leaves in output 3's staging buffer: its pieces read back over junk. -/
def out0_A_3 (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole)
    (x0 : Vec F S256x2304 .bf16) (x1 : Vec F S1x2304 .f32) : Vec F S256x2304 .bf16 :=
  VO0_3.read (Elt F) (VO0_3.writes (Elt F) VO0_3.junk (kernelRun0_A c i arg1 harg1 arg2 harg2 arg3 harg3 arg4 harg4 arg5 harg5 arg6 harg6 x0 x1).2.1)

/-! ## What the outputs hold after each point -/

/-- What the outputs' staging buffers hold after the body at point `t` (as a tuple, in window order): the run's contents at
    the point's memrefs and input blocks. -/
def outsAt0 (c : Dev nD) (t : Fin cfg0.N) : Vec F S256x2304 .bf16 × Vec F S256x2304 .bf16 :=
  (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_2 out0_A_3; (try dsimp only)
  iintro ⟨⟨⟨HS0, HS1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk0 V c 0 t) (iblk0 V c 1 t)).2.2.2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, ⟨%fT0, HS0⟩, ⟨%fT1, HS1⟩⟩
  isplitl [HS0 HS1 HR2 HR3 HR4 HR5 HR6 HR7 HR8 HR9 HR10 HR11 HR12 HR13 HR14 HR15 HR16 HR17 Hg]
  · isplitl [HS0 HS1 HR2 HR3 HR4 HR5 HR6 HR7 HR8 HR9 HR10 HR11 HR12 HR13 HR14 HR15 HR16 HR17]
    · isplitl [HS0]
      · iexists _; unfold owns; iexists _; isplitr
        swap; · iexact HS0
        ipureintro; rfl
      isplitl [HS1]
      · iexists _; unfold owns; iexists _; isplitr
        swap; · iexact HS1
        ipureintro; rfl
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      iexact HR17
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  unfold owns; iexists _; isplitr
  swap; · iexact H3
  ipureintro; exact View.read_writes_of_cover _ _ _ _ _ (cover0_A_3 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.Body1.lean ====
/- The run of the second call's body (`cc1_trellis_linear`) on whole buffers: the pieces it leaves in the output's buffer, as a
   function of the contents its buffers start from. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1 (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
    (x0 : Vec F S1024x288 .i16) (x1 : Vec F S1024x9 .f32) (x2 : Vec F S8x128 .f32) (x3 : Vec F S8x128 .f32) (x4 : Vec F S1536x2304 .bf16)
    (f5 : BufTy.Contents (Elt F) arg6.view.ty) (fs0 : BufTy.Contents (Elt F) arg7.view.ty) (fs1 : BufTy.Contents (Elt F) arg8.view.ty) (fs2 : BufTy.Contents (Elt F) arg9.view.ty) (fs3 : BufTy.Contents (Elt F) arg10.view.ty) (fs4 : BufTy.Contents (Elt F) arg11.view.ty) :
    { L5 : List (View.Piece (Elt F) S1536x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3) ∗ (arg11.view.loc (c : Thread nD τ) ↦[arg11.view.set]{fullShare} fs4)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) f5 L5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1_trellis_linear i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_trellis_linear_eq_skeleton]; unfold cc1_trellis_linear_skel
    simp only [k1_part111_eq_skeleton]
    unfold owns
    iintro ⟨⟨%f0, %hf0, H0⟩, ⟨%f1, %hf1, H1⟩, ⟨%f2, %hf2, H2⟩, ⟨%f3, %hf3, H3⟩, ⟨%f4, %hf4, H4⟩, H5, HS0, HS1, HS2, HS3, HS4, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Whole

end
-- ==== Proof.Body1Out.lean ====
/- What the second call's body leaves in the output's buffer, as a function of its input blocks alone: the scratch buffers'
   first contents and the output buffer's are nowhere read. Hence the body's triple with the output at `out1`. -/
module

public import proofs.«01_k».proof.Proof.Body1

@[expose] public section

set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
variable (x0 : Vec F S1024x288 .i16) (x1 : Vec F S1024x9 .f32) (x2 : Vec F S8x128 .f32) (x3 : Vec F S8x128 .f32) (x4 : Vec F S1536x2304 .bf16)

/-- The decoded weights' pieces, one list over the 64 trips of the decoding loop. -/
def wtL : List (View.Piece (Elt F) S1024x2304 .bf16) :=
  pb_k1_t1 Variants.none c none i arg1 harg1 arg2 harg2 arg3 harg3 arg4 harg4 arg5 harg5 arg6 harg6 arg7 harg7 arg8 harg8 arg9 harg9 arg10 harg10 arg11 harg11 (harg1.unread x0) (harg2.unread x1) k1_t1_loop.trips

/-- They cover the weights' scratch buffer. -/
theorem wtL_cover (y : S1024x2304.Idx) : ∃ p ∈ wtL (F := F) c i arg1 harg1 arg2 harg2 arg3 harg3 arg4 harg4 arg5 harg5 arg6 harg6 arg7 harg7 arg8 harg8 arg9 harg9 arg10 harg10 arg11 harg11 x0 x1, y ∈ p.1.set :=
  View.cover_of_tiledL (wtL (F := F) c i arg1 harg1 arg2 harg2 arg3 harg3 arg4 harg4 arg5 harg5 arg6 harg6 arg7 harg7 arg8 harg8 arg9 harg9 arg10 harg10 arg11 harg11 x0 x1) S16x128.size (by sl_kernel_rfl) y

/-- The weights' scratch buffer after the decoding loop, and the row scales' after the transposes. -/
def wtBuf : BufTy.Contents (Elt F) arg7.view.ty := harg7.unread (View.canon (wtL (F := F) c i arg1 harg1 arg2 harg2 arg3 harg3 arg4 harg4 arg5 harg5 arg6 harg6 arg7 harg7 arg8 harg8 arg9 harg9 arg10 harg10 arg11 harg11 x0 x1))
def rsBuf : BufTy.Contents (Elt F) arg8.view.ty := arg8.view.writes (Elt F) arg8.view.junk (kernelRun1.sl.HS1_8 c arg3 harg3 x2)

theorem wtBuf_eq (f : BufTy.Contents (Elt F) arg7.view.ty) :
    arg7.view.writes (Elt F) f (wtL (F := F) c i arg1 harg1 arg2 harg2 arg3 harg3 arg4 harg4 arg5 harg5 arg6 harg6 arg7 harg7 arg8 harg8 arg9 harg9 arg10 harg10 arg11 harg11 x0 x1) = wtBuf (F := F) c i arg1 harg1 arg2 harg2 arg3 harg3 arg4 harg4 arg5 harg5 arg6 harg6 arg7 harg7 arg8 harg8 arg9 harg9 arg10 harg10 arg11 harg11 x0 x1 :=
  harg7.eq_unread (View.read_writes_eq_canon _ _ _ (wtL_cover c i arg1 harg1 arg2 harg2 arg3 harg3 arg4 harg4 arg5 harg5 arg6 harg6 arg7 harg7 arg8 harg8 arg9 harg9 arg10 harg10 arg11 harg11 x0 x1))

/-- One trip's output pieces do not read the buffers it writes. -/
def tripOut (k : Fin k1_t2_loop.trips) (X4 : BufTy.Contents (Elt F) arg4.view.ty) (X5 : BufTy.Contents (Elt F) arg5.view.ty) (X7 : BufTy.Contents (Elt F) arg7.view.ty) (X8 : BufTy.Contents (Elt F) arg8.view.ty) :
    List (View.Piece (Elt F) S1536x1024 .bf16) :=
  (trip_k1_t2 (F := F) Variants.none c none i arg1 harg1 arg2 harg2 arg3 harg3 arg4 harg4 arg5 harg5 arg6 harg6 arg7 harg7 arg8 harg8 arg9 harg9 arg10 harg10 arg11 harg11 X4 X5 X7 X8 k).1 arg6.view.junk arg9.view.junk arg10.view.junk arg11.view.junk

theorem tripOut_eq (k : Fin k1_t2_loop.trips) (X4 : BufTy.Contents (Elt F) arg4.view.ty) (X5 : BufTy.Contents (Elt F) arg5.view.ty) (X7 : BufTy.Contents (Elt F) arg7.view.ty) (X8 : BufTy.Contents (Elt F) arg8.view.ty) (f6 f9 f10 f11) :
    (trip_k1_t2 (F := F) Variants.none c none i arg1 harg1 arg2 harg2 arg3 harg3 arg4 harg4 arg5 harg5 arg6 harg6 arg7 harg7 arg8 harg8 arg9 harg9 arg10 harg10 arg11 harg11 X4 X5 X7 X8 k).1 f6 f9 f10 f11 = tripOut (F := F) c i arg1 harg1 arg2 harg2 arg3 harg3 arg4 harg4 arg5 harg5 arg6 harg6 arg7 harg7 arg8 harg8 arg9 harg9 arg10 harg10 arg11 harg11 k X4 X5 X7 X8 := by
  unfold tripOut trip_k1_t2
  rfl

/-- The output's pieces over the first `n` trips. -/
def outsTo (X4 : BufTy.Contents (Elt F) arg4.view.ty) (X5 : BufTy.Contents (Elt F) arg5.view.ty) (X7 : BufTy.Contents (Elt F) arg7.view.ty) (X8 : BufTy.Contents (Elt F) arg8.view.ty) : ℕ → List (View.Piece (Elt F) S1536x1024 .bf16)
  | 0 => []
  | n + 1 => (if h : n < k1_t2_loop.trips then tripOut (F := F) c i arg1 harg1 arg2 harg2 arg3 harg3 arg4 harg4 arg5 harg5 arg6 harg6 arg7 harg7 arg8 harg8 arg9 harg9 arg10 harg10 arg11 harg11 ⟨n, h⟩ X4 X5 X7 X8 else []) ++ outsTo X4 X5 X7 X8 n

theorem pb_eq_outsTo (X4 : BufTy.Contents (Elt F) arg4.view.ty) (X5 : BufTy.Contents (Elt F) arg5.view.ty) (X7 : BufTy.Contents (Elt F) arg7.view.ty) (X8 : BufTy.Contents (Elt F) arg8.view.ty) (f6 f9 f10 f11) :
    ∀ n : ℕ, (pb_k1_t2 (F := F) Variants.none c none i arg1 harg1 arg2 harg2 arg3 harg3 arg4 harg4 arg5 harg5 arg6 harg6 arg7 harg7 arg8 harg8 arg9 harg9 arg10 harg10 arg11 harg11 X4 X5 X7 X8 f6 f9 f10 f11 n).1 = outsTo (F := F) c i arg1 harg1 arg2 harg2 arg3 harg3 arg4 harg4 arg5 harg5 arg6 harg6 arg7 harg7 arg8 harg8 arg9 harg9 arg10 harg10 arg11 harg11 X4 X5 X7 X8 n
  | 0 => rfl
  | n + 1 => by
    by_cases h : n < k1_t2_loop.trips
    · have := pb_k1_t2_succ (F := F) Variants.none c none i arg1 harg1 arg2 harg2 arg3 harg3 arg4 harg4 arg5 harg5 arg6 harg6 arg7 harg7 arg8 harg8 arg9 harg9 arg10 harg10 arg11 harg11 X4 X5 X7 X8 f6 f9 f10 f11 ⟨n, h⟩
      rw [this]
      dsimp only [tripL_k1_t2]
      rw [tripOut_eq, pb_eq_outsTo X4 X5 X7 X8 f6 f9 f10 f11 n]
      conv_rhs => unfold outsTo
      rw [dif_pos h]
    · rw [pb_k1_t2.eq_2]; unfold pb_k1_t2Step; rw [dif_neg h, pb_eq_outsTo X4 X5 X7 X8 f6 f9 f10 f11 n]
      conv_rhs => unfold outsTo
      rw [dif_neg h, List.nil_append]

/-- The output's pieces, of the input blocks. -/
def outL : List (View.Piece (Elt F) S1536x1024 .bf16) :=
  outsTo (F := F) c i arg1 harg1 arg2 harg2 arg3 harg3 arg4 harg4 arg5 harg5 arg6 harg6 arg7 harg7 arg8 harg8 arg9 harg9 arg10 harg10 arg11 harg11 (harg4.unread x3) (harg5.unread x4) (wtBuf (F := F) c i arg1 harg1 arg2 harg2 arg3 harg3 arg4 harg4 arg5 harg5 arg6 harg6 arg7 harg7 arg8 harg8 arg9 harg9 arg10 harg10 arg11 harg11 x0 x1) (rsBuf (F := F) c arg3 harg3 arg8 x2) k1_t2_loop.trips

theorem run_pieces (f5 : BufTy.Contents (Elt F) arg6.view.ty) (fs0 : BufTy.Contents (Elt F) arg7.view.ty) (fs1 : BufTy.Contents (Elt F) arg8.view.ty) (fs2 : BufTy.Contents (Elt F) arg9.view.ty) (fs3 : BufTy.Contents (Elt F) arg10.view.ty) (fs4 : BufTy.Contents (Elt F) arg11.view.ty) :
    (kernelRun1 (F := F) c i arg1 harg1 arg2 harg2 arg3 harg3 arg4 harg4 arg5 harg5 arg6 harg6 arg7 harg7 arg8 harg8 arg9 harg9 arg10 harg10 arg11 harg11 x0 x1 x2 x3 x4 f5 fs0 fs1 fs2 fs3 fs4).1 = outL (F := F) c i arg1 harg1 arg2 harg2 arg3 harg3 arg4 harg4 arg5 harg5 arg6 harg6 arg7 harg7 arg8 harg8 arg9 harg9 arg10 harg10 arg11 harg11 x0 x1 x2 x3 x4 := by
  unfold outL
  rw [← pb_eq_outsTo (f6 := f5) (f9 := fs2) (f10 := fs3) (f11 := fs4), ← wtBuf_eq (f := fs0)]
  rfl

/-- The output's pieces cover its buffer. -/
theorem outL_cover (y : S1536x1024.Idx) : ∃ p ∈ outL (F := F) c i arg1 harg1 arg2 harg2 arg3 harg3 arg4 harg4 arg5 harg5 arg6 harg6 arg7 harg7 arg8 harg8 arg9 harg9 arg10 harg10 arg11 harg11 x0 x1 x2 x3 x4, y ∈ p.1.set :=
  View.cover_of_tiledL (outL (F := F) c i arg1 harg1 arg2 harg2 arg3 harg3 arg4 harg4 arg5 harg5 arg6 harg6 arg7 harg7 arg8 harg8 arg9 harg9 arg10 harg10 arg11 harg11 x0 x1 x2 x3 x4) S128x128.size (by sl_kernel_rfl) y

/-- What the body leaves in the output's buffer. -/
def out1 : Vec F S1536x1024 .bf16 := View.canon (outL (F := F) c i arg1 harg1 arg2 harg2 arg3 harg3 arg4 harg4 arg5 harg5 arg6 harg6 arg7 harg7 arg8 harg8 arg9 harg9 arg10 harg10 arg11 harg11 x0 x1 x2 x3 x4)

/-- The body's triple: the inputs kept, the output at `out1`, the scratch at some contents. -/
theorem run1 (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 (F := F) c i arg1 harg1 arg2 harg2 arg3 harg3 arg4 harg4 arg5 harg5 arg6 harg6 arg7 harg7 arg8 harg8 arg9 harg9 arg10 harg10 arg11 harg11 x0 x1 x2 x3 x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc1_trellis_linear i arg1 harg1 arg2 harg2 arg3 harg3 arg4 harg4 arg5 harg5 arg6 harg6 arg7 harg7 arg8 harg8 arg9 harg9 arg10 harg10 arg11 harg11) K := by
  iintro ⟨H0, H1, H2, H3, H4, ⟨%d5, H5⟩, ⟨%ds0, HS0⟩, ⟨%ds1, HS1⟩, ⟨%ds2, HS2⟩, ⟨%ds3, HS3⟩, ⟨%ds4, HS4⟩, Hk⟩
  unfold owns
  icases H5 with ⟨%f5, -, H5⟩
  icases HS0 with ⟨%fs0, -, HS0⟩
  icases HS1 with ⟨%fs1, -, HS1⟩
  icases HS2 with ⟨%fs2, -, HS2⟩
  icases HS3 with ⟨%fs3, -, HS3⟩
  icases HS4 with ⟨%fs4, -, HS4⟩
  iapply ((kernelRun1 (F := F) c i arg1 harg1 arg2 harg2 arg3 harg3 arg4 harg4 arg5 harg5 arg6 harg6 arg7 harg7 arg8 harg8 arg9 harg9 arg10 harg10 arg11 harg11 x0 x1 x2 x3 x4 f5 fs0 fs1 fs2 fs3 fs4).2 E K)
  unfold owns
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  rw [run_pieces]
  iintro ⟨H0, H1, H2, H3, H4, H5, HS0, HS1, HS2, HS3, HS4⟩
  iapply Hk
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; exact View.read_writes_eq_canon _ _ _ (outL_cover c i arg1 harg1 arg2 harg2 arg3 harg3 arg4 harg4 arg5 harg5 arg6 harg6 arg7 harg7 arg8 harg8 arg9 harg9 arg10 harg10 arg11 harg11 x0 x1 x2 x3 x4)
  isplitl [HS0]; · iexact HS0
  isplitl [HS1]; · iexact HS1
  isplitl [HS2]; · iexact HS2
  isplitl [HS3]; · iexact HS3
  iexact HS4

end Cert.KernelIdeal.Whole

end
-- ==== Proof.Region1.lean ====
/- The second call of the program (`cc1_trellis_linear`) at the buffer contents `V` it is entered with: its blocks, what
   its body leaves in the output's buffer, and the body obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Loops
public import proofs.«01_k».proof.Proof.Body1Out

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_trellis_linear` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S1536x1024 .bf16 := (Memref.whole cc1_stg5_0 : Memref sig .tc .vmem S1536x1024 .bf16).view
/-- Each window's current staging memref at point `t`, spelled as the pipeline passes it (`bodyAt1`), and its wholeness. -/
abbrev ms1_0 (t : Fin cfg1.N) : Memref sig .tc .vmem S1024x288 .i16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x9 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1536x2304 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1536x1024 .bf16 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x2304 .bf16 := Memref.whole cc1_scratch0
abbrev scM1_1 : Memref sig .tc .vmem S1024x128 .f32 := Memref.whole cc1_scratch1
abbrev scM1_2 : Memref sig .tc .vmem S512x256 .f32 := Memref.whole cc1_scratch2
abbrev scM1_3 : Memref sig .tc .vmem S1056x128 .f32 := Memref.whole cc1_scratch3
abbrev scM1_4 : Memref sig .tc .vmem S1152x128 .f32 := Memref.whole cc1_scratch4

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d)) ∗ (∃ r, prngReg c r)) := by
  unfold Pipeline.ΦA; rw [scopedRest1_eq]; simp only [scM1_0, scM1_1, scM1_2, scM1_3, scM1_4, owns_whole]; try rfl

/-! ## What the outputs hold after each point -/

/-- What the outputs' staging buffers hold after the body at point `t`: the run's contents at
    the point's memrefs and input blocks. -/
def outsAt1 (c : Dev nD) (t : Fin cfg1.N) : Vec F S1536x1024 .bf16 :=
  out1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t) (iblk1 V c 2 t) (iblk1 V c 3 t) (iblk1 V c 4 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  iintro ⟨⟨⟨HR0, HR1, HR2, HR3, HR4, HR5, HR6, HR7, HR8, HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run1 c (grid1.coords t) _ _ _ _ _ _ _ _ _ _ _ _ _ _ _ _ _ _ _ _ _ _ (iblk1 V c 0 t) (iblk1 V c 1 t) (iblk1 V c 2 t) (iblk1 V c 3 t) (iblk1 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HR0 HR1 HR2 HR3 HR4 HR5 HR6 HR7 HR8 HS0 HS1 HS2 HS3 HS4 Hg]
  · isplitl [HR0 HR1 HR2 HR3 HR4 HR5 HR6 HR7 HR8 HS0 HS1 HS2 HS3 HS4]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.Run.lean ====
/- The run of the program: the buffer contents between its items, the two calls as segments, and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Region0
public import proofs.«01_k».proof.Proof.Region1

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates, nothing
    faulting, and every final state has the argument arrays as launched, the two results at the contents the fold gives them and
    every semaphore counter of the machine at zero: the library's launch over the segments, the last thread state read against
    the final state (`pointsTo_read_all`), each argument by `W5_<arg>`. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v6) = W5 m ρ c (Proc.devRef .tc main_v6)
      ∧ r.2.mem ((c.tc : Thread nD τ).loc main_v7) = W5 m ρ c (Proc.devRef .tc main_v7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       h c _ (mem_uc main_v6 (by decide)),
       h c _ (mem_uc main_v7 (by decide))⟩), funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1⟩, h.2⟩) (run m ρ)

end Cert.KernelIdeal.Whole

end
-- ==== Proof.FinitePre.lean ====
/- What the precondition says: every entry of the four arrays it reads is a real number. -/
module

public import proofs.«01_k».proof.Proof.Gen.Pre_finite
public import Idealize.ShloMosaic.Lib.Pointwise

@[expose] public section

noncomputable section

namespace Cert.Pre_finite

open Idealize.ShloMosaic

/-- A number of absolute value below some number is real. -/
theorem real_of_cmp (x c : EReal) (h : Ideal.cmp .olt (max x (-x)) c = 1#1) : ∃ a : ℝ, x = a := by
  have hlt : max x (-x) < c := by
    by_contra hn
    have : Ideal.cmp .olt (max x (-x)) c = 0#1 := by
      show BitVec.ofBool (decide (max x (-x) < c)) = 0#1
      rw [decide_eq_false hn]
      rfl
    rw [this] at h
    exact absurd h (by decide)
  have h1 : x < ⊤ := lt_of_le_of_lt (le_max_left _ _) (lt_of_lt_of_le hlt le_top)
  have h2 : -x < ⊤ := lt_of_le_of_lt (le_max_right _ _) (lt_of_lt_of_le hlt le_top)
  have h3 : x ≠ ⊥ := by
    rintro rfl
    rw [EReal.neg_bot] at h2
    exact lt_irrefl _ h2
  exact ⟨x.toReal, (EReal.coe_toReal h1.ne h3).symm⟩

variable (a0 : FVec Ideal S6x256x2304 .bf16) (a1 : IVec S9216x288 16) (a2 : FVec Ideal S9216 .f32) (a3 : FVec Ideal S9216x9 .f32) (a4 : FVec Ideal S2304 .f32) (a5 : FVec Ideal S9216 .f32)

theorem real_arg0 (h : (fn (F := Ideal) a0 a1 a2 a3 a4 a5).1 = fun _ => 1#1) (y : S6x256x2304.Idx) : ∃ a : ℝ, (a0 y : EReal) = a :=
  real_of_cmp _ _ (congrFun h y)

theorem real_arg2 (h : (fn (F := Ideal) a0 a1 a2 a3 a4 a5).2.1 = fun _ => 1#1) (y : S9216.Idx) : ∃ a : ℝ, (a2 y : EReal) = a :=
  real_of_cmp _ _ (congrFun h y)

theorem real_arg3 (h : (fn (F := Ideal) a0 a1 a2 a3 a4 a5).2.2.1 = fun _ => 1#1) (y : S9216x9.Idx) : ∃ a : ℝ, (a3 y : EReal) = a :=
  real_of_cmp _ _ (congrFun h y)

theorem real_arg4 (h : (fn (F := Ideal) a0 a1 a2 a3 a4 a5).2.2.2 = fun _ => 1#1) (y : S2304.Idx) : ∃ a : ℝ, (a4 y : EReal) = a :=
  real_of_cmp _ _ (congrFun h y)

end Cert.Pre_finite

end
-- ==== Proof.Trip.lean ====
/- One trip of the second call's second loop, as data: the pieces it writes to its three scratch buffers and to the output,
   each list in closed form. The two passes of the Hadamard butterfly are 16 and 8 vectors of 8 rows, and `bf` is the
   butterfly of a family of vectors; the lists the execution built are these by computation. -/
module

public import proofs.«01_k».proof.Proof.Body1Out

@[expose] public section

set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first `s` stages of the butterfly of `v`: stage `s` adds or subtracts the entries `2 ^ s` apart. -/
def bf (v : ℕ → Vec F S8x128 .f32) : ℕ → ℕ → Vec F S8x128 .f32
  | 0, i => v i
  | s + 1, i => cond (i.testBit s) (subf (bf v s (i - 2 ^ s)) (bf v s i)) (addf (bf v s i) (bf v s (i + 2 ^ s)))

/-- The list of the first `n` pieces, the last one first. -/
def pieces {S : Shape} {e : EltTy} (f : ℕ → View.Piece (Elt F) S e) : ℕ → List (View.Piece (Elt F) S e)
  | 0 => []
  | n + 1 => f n :: pieces f n

theorem mem_pieces {S : Shape} {e : EltTy} {f : ℕ → View.Piece (Elt F) S e} {p : View.Piece (Elt F) S e} :
    ∀ {n : ℕ}, p ∈ pieces f n → ∃ m, m < n ∧ p = f m
  | 0, h => by simp [pieces] at h
  | n + 1, h => by
    rcases List.mem_cons.mp h with h | h
    · exact ⟨n, Nat.lt_succ_self n, h⟩
    · obtain ⟨m, hm, e⟩ := mem_pieces h; exact ⟨m, by omega, e⟩

variable (arg4 : Memref sig .tc .vmem S8x128 .f32) (arg5 : Memref sig .tc .vmem S1536x2304 .bf16) (arg7 : Memref sig .tc .vmem S1024x2304 .bf16) (arg8 : Memref sig .tc .vmem S1024x128 .f32) (arg9 : Memref sig .tc .vmem S512x256 .f32) (arg10 : Memref sig .tc .vmem S1056x128 .f32) (arg11 : Memref sig .tc .vmem S1152x128 .f32)
variable (X4 : BufTy.Contents (Elt F) arg4.view.ty) (X5 : BufTy.Contents (Elt F) arg5.view.ty) (X7 : BufTy.Contents (Elt F) arg7.view.ty) (X8 : BufTy.Contents (Elt F) arg8.view.ty) (k : Fin k1_t2_loop.trips)

/-- The matrix product's piece. -/
abbrev accL : List (View.Piece (Elt F) S512x256 .f32) := trip_k1_t2.sl.HW_arg9_1 (F := F) arg5 arg7 X5 X7 k

theorem inb_acc (c j : ℕ) : ∀ a, (![c % 4 * 128 + 8 * (j % 16), c / 4 % 2 * 128] : Fin 2 → ℕ) a + S8x128.size a ≤ S512x256.size a := by
  intro a; fin_cases a <;> simp [S8x128, S512x256] <;> omega

/-- The first pass's scaled product: rows `128 (c % 4) + 8 j ..` of tile column `c / 4`. -/
def leaf1 (c j : ℕ) : Vec F S8x128 .f32 :=
  mulf (arg9.view.readCov (accL (F := F) arg5 arg7 X5 X7 k) (Rect.unit (s := S512x256) ![c % 4 * 128 + 8 * (j % 16), c / 4 % 2 * 128] S8x128.size (inb_acc c j)).toLoadRect)
    (View.readAt (Elt F) arg8.view (Rect.unit (s := S1024x128) (k1_off25 k (BitVec.ofNat 32 (8 * (c % 4 * 16 + j % 16)))) S8x128.size (k1_off25_inb k ⟨c % 4 * 16 + j % 16, by omega⟩)).toLoadRect X8)

theorem inb_p1 (n : ℕ) : ∀ a, (![n / 16 % 8 * 132 + 8 * (n % 16), 0] : Fin 2 → ℕ) a + S8x128.size a ≤ S1056x128.size a := by
  intro a; fin_cases a <;> simp [S8x128, S1056x128] <;> omega

/-- The first pass's `n`-th store. -/
def p1Piece (n : ℕ) : View.Piece (Elt F) S1056x128 .f32 :=
  ⟨Rect.unit (s := S1056x128) ![n / 16 % 8 * 132 + 8 * (n % 16), 0] S8x128.size (inb_p1 n),
    shapeCast S8x128 (bf (leaf1 (F := F) arg5 arg7 arg8 arg9 X5 X7 X8 k (n / 16 % 8)) 4 (n % 16)) shapeCasts_S8x128_S8x128⟩

theorem p1_eq : trip_k1_t2.sl.HW_arg10_128 (F := F) arg5 arg7 arg8 arg9 X5 X7 X8 k = pieces (p1Piece (F := F) arg5 arg7 arg8 arg9 X5 X7 X8 k) 128 := by
  sl_kernel_rfl

theorem inb_p1r (k' i : ℕ) : ∀ a, S8x128.size a = 0 ∨ (![8 * (k' % 16) + i % 8, 0] : Fin 2 → ℕ) a + (![132, 1] : Fin 2 → ℕ) a * (S8x128.size a - 1) < S1056x128.size a := by
  intro a; fin_cases a <;> simp [S8x128, S1056x128] <;> omega

/-- The second pass's reads: one row of each of the eight blocks of the first pass. -/
def leaf2 (k' i : ℕ) : Vec F S8x128 .f32 :=
  arg10.view.readCov (pieces (p1Piece (F := F) arg5 arg7 arg8 arg9 X5 X7 X8 k) 128) { off := ![8 * (k' % 16) + i % 8, 0], size := S8x128.size, stride := ![132, 1], inb := inb_p1r k' i }

theorem inb_p2 (n : ℕ) : ∀ a, (![n % 128 * 9, 0] : Fin 2 → ℕ) a + S8x128.size a ≤ S1152x128.size a := by
  intro a; fin_cases a <;> simp [S8x128, S1152x128] <;> omega

/-- The second pass's `n`-th store. -/
def p2Piece (n : ℕ) : View.Piece (Elt F) S1152x128 .f32 :=
  ⟨Rect.unit (s := S1152x128) ![n % 128 * 9, 0] S8x128.size (inb_p2 n),
    shapeCast S8x128 (bf (leaf2 (F := F) arg5 arg7 arg8 arg9 arg10 X5 X7 X8 k (n / 8)) 3 (n % 8)) shapeCasts_S8x128_S8x128⟩

theorem p2_eq : trip_k1_t2.sl.HW_arg11_128 (F := F) arg5 arg7 arg8 arg9 arg10 X5 X7 X8 k = pieces (p2Piece (F := F) arg5 arg7 arg8 arg9 arg10 X5 X7 X8 k) 128 := by
  sl_kernel_rfl

theorem inb_p2r (n k' : ℕ) : ∀ a, S8x128.size a = 0 ∨ (![72 * (k' % 16) + n % 8, 0] : Fin 2 → ℕ) a + (![9, 1] : Fin 2 → ℕ) a * (S8x128.size a - 1) < S1152x128.size a := by
  intro a; fin_cases a <;> simp [S8x128, S1152x128] <;> omega

/-- The last reads: eight rows of block `n` of the second pass. -/
def leaf3 (n k' : ℕ) : Vec F S8x128 .f32 :=
  arg11.view.readCov (pieces (p2Piece (F := F) arg5 arg7 arg8 arg9 arg10 X5 X7 X8 k) 128) { off := ![72 * (k' % 16) + n % 8, 0], size := S8x128.size, stride := ![9, 1], inb := inb_p2r n k' }

/-- The output's `n`-th store: the transpose of block `n`, scaled column by column, as bfloat16. -/
def yPiece (n : ℕ) : View.Piece (Elt F) S1536x1024 .bf16 :=
  ⟨Rect.unit (s := S1536x1024) (k1_off27 k (BitVec.ofNat 32 (128 * (n / 4 % 2))) (BitVec.ofNat 32 (128 * (n % 4)))) S128x128.size
      (k1_off27_inb k ⟨n / 4 % 2, by omega⟩ ⟨n % 4, by omega⟩),
    truncf FTy.bf16 (mulf
      (transpose S128x128 [1, 0] (concatenate S128x128 0
        (let f := leaf3 (F := F) arg5 arg7 arg8 arg9 arg10 arg11 X5 X7 X8 k n
         [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩,
          ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩])
        concatenates_S8x128_S8x128_S8x128_S8x128_S8x128_S8x128_S8x128_S8x128_S8x128_S8x128_S8x128_S8x128_S8x128_S8x128_S8x128_S8x128_S128x128_d0)
        transposes_S128x128_p1_0_S128x128)
      (broadcastTo S128x128 (mulf
        (shapeCast S1x128 (View.readAt (Elt F) arg4.view (Rect.unit (s := S8x128) (k1_off26 k (BitVec.ofNat 32 (n % 4))) S1x128.size (k1_off26_inb k ⟨n % 4, by omega⟩)).toLoadRect X4) shapeCasts_S1x128_S1x128)
        (broadcast S1x128 (FloatOps.ofBits FTy.f32 1035273459#32))) broadcasts_S1x128_S128x128)) bitsLt_bf16_f32⟩

theorem tripOut_pieces (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole)
    (harg4 : arg4.IsWhole) (harg5 : arg5.IsWhole) (arg6 : Memref sig .tc .vmem S1536x1024 .bf16) (harg6 : arg6.IsWhole) (harg7 : arg7.IsWhole) (harg8 : arg8.IsWhole) (harg9 : arg9.IsWhole) (harg10 : arg10.IsWhole) (harg11 : arg11.IsWhole) :
    tripOut (F := F) c i arg1 harg1 arg2 harg2 arg3 harg3 arg4 harg4 arg5 harg5 arg6 harg6 arg7 harg7 arg8 harg8 arg9 harg9 arg10 harg10 arg11 harg11 k X4 X5 X7 X8
      = pieces (yPiece (F := F) arg4 arg5 arg7 arg8 arg9 arg10 arg11 X4 X5 X7 X8 k) 8 := by
  unfold tripOut trip_k1_t2
  sl_kernel_rfl

end Cert.KernelIdeal.Whole

end
-- ==== Proof.Spec.lean ====
/- Small tools for reading arrays of extended reals by natural-number coordinates, and the Hadamard butterfly of a family of
   numbers. -/
module

public import Idealize.ShloMosaic.Lib.Pipeline.Value
public import Idealize.ShloMosaic.Lib.Pointwise

@[expose] public section

noncomputable section

namespace Cert.Val

open Idealize.ShloMosaic

/-- A matrix read at two natural numbers, zero outside. -/
def at2 {n m : ℕ} (v : (⟨2, ![n, m]⟩ : Shape).Idx → EReal) (r c : ℕ) : EReal :=
  if h : r < n ∧ c < m then v (ix2 ⟨r, h.1⟩ ⟨c, h.2⟩) else 0

theorem eq_at2 {n m : ℕ} (v : (⟨2, ![n, m]⟩ : Shape).Idx → EReal) (y : (⟨2, ![n, m]⟩ : Shape).Idx) :
    v y = at2 v (y 0).val (y 1).val := by
  unfold at2
  rw [dif_pos ⟨(y 0).isLt, (y 1).isLt⟩]
  refine congrArg v (funext fun a => ?_)
  match a with
  | ⟨0, _⟩ => rfl
  | ⟨1, _⟩ => rfl

theorem at2_ix2 {n m : ℕ} (v : (⟨2, ![n, m]⟩ : Shape).Idx → EReal) (r : Fin n) (c : Fin m) :
    at2 v r.val c.val = v (ix2 r c) := by
  unfold at2
  rw [dif_pos ⟨r.isLt, c.isLt⟩]

/-- The first `s` stages of the Hadamard butterfly of `v`. -/
def bfE (v : ℕ → EReal) : ℕ → ℕ → EReal
  | 0, i => v i
  | s + 1, i => cond (i.testBit s) (bfE v s (i - 2 ^ s) - bfE v s i) (bfE v s i + bfE v s (i + 2 ^ s))

theorem bfE_congr {v w : ℕ → EReal} (h : ∀ i, v i = w i) (s i : ℕ) : bfE v s i = bfE w s i := by
  rw [show v = w from funext h]

/-- The butterfly of 128 numbers, as a pass over sixteen and a pass over eight. -/
def bf128 (v : ℕ → EReal) (i : ℕ) : EReal :=
  bfE (fun b => bfE (fun j => v (8 * (j % 16) + b % 8)) 4 (i / 8)) 3 (i % 8)

end Cert.Val

end
-- ==== Proof.Concat.lean ====
/- A concatenation of equal pieces, read at an index. -/
module

public import Idealize.ShloMosaic.Lib.Pipeline.Value
public import Idealize.ShloMosaic.Lib.Pointwise

@[expose] public section

namespace Cert.Val

open Idealize.ShloMosaic

variable {α : Type}

theorem locate_sum : ∀ (ns : List ℕ) (c : ℕ) (h : c < ns.sum), (ns.take (locate ns c h).1.val).sum + (locate ns c h).2.val = c
  | [], c, h => absurd h (Nat.not_lt_zero _)
  | n :: ns, c, h => by
    by_cases hc : c < n
    · have e : locate (n :: ns) c h = ⟨⟨0, Nat.zero_lt_succ _⟩, ⟨c, hc⟩⟩ := by rw [locate, dif_pos hc]
      rw [e]; simp
    · have h' : c - n < ns.sum := by rw [List.sum_cons] at h; omega
      have e : locate (n :: ns) c h = ⟨(locate ns (c - n) h').1.succ, (locate ns (c - n) h').2⟩ := by rw [locate, dif_neg hc]
      have := locate_sum ns (c - n) h'
      rw [e]
      show ((n :: ns).take ((locate ns (c - n) h').1.val + 1)).sum + (locate ns (c - n) h').2.val = c
      rw [List.take_succ_cons, List.sum_cons]
      omega

/-- A concatenation read at `j` is `v` if every piece, read where `j` could fall in it, is `v`. -/
theorem concatenate_of {t : Shape} (a : Fin t.rank) (xs : List ((s : Shape) × (s.Idx → α))) (h : Shape.Concatenates (xs.map (·.1)) t a)
    (j : t.Idx) (v : α)
    (H : ∀ (k : ℕ) (p : (s : Shape) × (s.Idx → α)), xs[k]? = some p → ∀ (hr : p.1.rank = t.rank) (i : p.1.Idx),
      (((xs.map (·.1)).map fun s => if h : s.rank = t.rank then s.size (a.cast h.symm) else 0).take k).sum + (i (a.cast hr.symm)).val = (j a).val →
      (∀ b, b ≠ a → (i (b.cast hr.symm)).val = (j b).val) → p.2 i = v) :
    concatenate t a xs h j = v := by
  unfold concatenate
  refine H _ _ (List.getElem?_eq_getElem _) ((h.2.1 _ (List.mem_map.2 ⟨_, List.getElem_mem _, rfl⟩)).1) _ ?_ ?_
  · exact (congrArg (fun z => _ + z) (congrArg Fin.val (dif_pos rfl))).trans (locate_sum _ _ _)
  · exact fun b hb => congrArg Fin.val (dif_neg hb)

/-- The same for `N` pieces of one shape. -/
theorem concatenate_range {t s : Shape} (a : Fin t.rank) (N m : ℕ) (f : ℕ → s.Idx → α)
    (h : Shape.Concatenates (((List.range N).map fun q => (⟨s, f q⟩ : (s : Shape) × (s.Idx → α))).map (·.1)) t a)
    (hr : s.rank = t.rank) (hm : s.size (a.cast hr.symm) = m) (j : t.Idx) (v : α)
    (H : ∀ q, q < N → ∀ i : s.Idx, q * m + (i (a.cast hr.symm)).val = (j a).val → (∀ b, b ≠ a → (i (b.cast hr.symm)).val = (j b).val) → f q i = v) :
    concatenate t a ((List.range N).map fun q => (⟨s, f q⟩ : (s : Shape) × (s.Idx → α))) h j = v := by
  refine concatenate_of a _ h j v fun k p hp hr' i h1 h2 => ?_
  have hk : k < N := by
    by_contra hk
    rw [List.getElem?_eq_none (by simp; omega)] at hp
    exact absurd hp (by simp)
  have e : p = ⟨s, f k⟩ := by
    rw [List.getElem?_map, List.getElem?_range hk] at hp
    exact (Option.some.inj hp).symm
  subst e
  refine H k hk i ?_ h2
  rw [← h1]
  congr 1
  simp only [List.map_map]
  rw [show ((List.range N).map _) = List.replicate N m from ?_, List.take_replicate, List.sum_replicate]
  · simp; left; omega
  · rw [List.eq_replicate_iff]
    refine ⟨by simp, fun b hb => ?_⟩
    obtain ⟨q, -, rfl⟩ := List.mem_map.mp hb
    simp only [Function.comp]
    rw [dif_pos hr, hm]

end Cert.Val
-- ==== Proof.TripValue.lean ====
/- The values of one trip of the second call's second loop, over the extended reals: the two butterfly passes over the scaled
   matrix product, read by coordinates. -/
module

public import proofs.«01_k».proof.Proof.Trip
public import proofs.«01_k».proof.Proof.Spec
public import proofs.«01_k».proof.Proof.Concat

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

theorem mem_pieces_of_lt {F : FTy → Type} [FloatOps F] {S : Shape} {e : EltTy} {f : ℕ → View.Piece (Elt F) S e} {m : ℕ} :
    ∀ {n : ℕ}, m < n → f m ∈ pieces f n
  | n + 1, h => by
    by_cases e : m = n
    · subst e; exact List.mem_cons_self
    · exact List.mem_cons_of_mem _ (mem_pieces_of_lt (by omega))

/-- A covered coordinate of a list of pieces that agree with one function of the coordinates. -/
theorem canon_pieces {S : Shape} {e : EltTy} (f : ℕ → View.Piece (Elt Ideal) S e) (N : ℕ) (G : S.Idx → Elt Ideal e)
    (hf : ∀ k, k < N → ∀ x, (f k).2 x = G ((f k).1.emb x)) (y : S.Idx) (k : ℕ) (hk : k < N) (hy : y ∈ (f k).1.set) :
    View.canon (pieces f N) y = G y :=
  View.canon_apply_of_pieces G _ (fun p hp x => by obtain ⟨m, hm, rfl⟩ := mem_pieces hp; exact hf m hm x) y
    ⟨f k, mem_pieces_of_lt hk, hy⟩

/-- The butterfly of vectors, read at an index, is the butterfly of the numbers there. -/
theorem bf_apply (v : ℕ → Vec Ideal S8x128 .f32) (x : S8x128.Idx) : ∀ s i : ℕ, bf (F := Ideal) v s i x = bfE (fun j => v j x) s i
  | 0, i => rfl
  | s + 1, i => by
    unfold bf bfE
    cases i.testBit s
    · simp only [cond_false]; rw [← bf_apply v x s i, ← bf_apply v x s (i + 2 ^ s)]; rfl
    · simp only [cond_true]; rw [← bf_apply v x s i, ← bf_apply v x s (i - 2 ^ s)]; rfl

attribute [local irreducible] bf bfE

theorem div_blk {a m b : ℕ} (h : b < m) : (a * m + b) / m = a := by
  rw [Nat.mul_comm, Nat.mul_add_div (by omega), Nat.div_eq_of_lt h, Nat.add_zero]
theorem mod_blk {a m b : ℕ} (h : b < m) : (a * m + b) % m = b := by
  rw [Nat.mul_comm, Nat.mul_add_mod, Nat.mod_eq_of_lt h]

theorem off23_val : ∀ k : Fin k1_t2_loop.trips, k1_off23 k 0 = k.val % 2 * 512 ∧ k1_off23 k 1 = 0 := by decide +kernel
theorem off24_val : ∀ k : Fin k1_t2_loop.trips, k1_off24 k 0 = k.val / 2 * 256 ∧ k1_off24 k 1 = 0 := by decide +kernel
theorem off25_val : ∀ k : Fin k1_t2_loop.trips, ∀ r : Fin 64, k1_off25 k (BitVec.ofNat 32 (8 * r.val)) 0 = k.val % 2 * 512 + 8 * r.val ∧ k1_off25 k (BitVec.ofNat 32 (8 * r.val)) 1 = 0 := by
  decide +kernel
theorem off26_val : ∀ k : Fin k1_t2_loop.trips, ∀ r : Fin 4, k1_off26 k (BitVec.ofNat 32 r.val) 0 = k.val % 2 * 4 + r.val ∧ k1_off26 k (BitVec.ofNat 32 r.val) 1 = 0 := by
  decide +kernel
theorem off27_val : ∀ k : Fin k1_t2_loop.trips, ∀ (r₁ : Fin 2) (r₂ : Fin 4), k1_off27 k (BitVec.ofNat 32 (128 * r₁.val)) (BitVec.ofNat 32 (128 * r₂.val)) 0 = k.val / 2 * 256 + 128 * r₁.val
    ∧ k1_off27 k (BitVec.ofNat 32 (128 * r₁.val)) (BitVec.ofNat 32 (128 * r₂.val)) 1 = k.val % 2 * 512 + 128 * r₂.val := by
  decide +kernel
theorem trips_eq : k1_t2_loop.trips = 12 := by decide +kernel

variable (arg4 : Memref sig .tc .vmem S8x128 .f32) (arg5 : Memref sig .tc .vmem S1536x2304 .bf16) (arg7 : Memref sig .tc .vmem S1024x2304 .bf16) (arg8 : Memref sig .tc .vmem S1024x128 .f32) (arg9 : Memref sig .tc .vmem S512x256 .f32) (arg10 : Memref sig .tc .vmem S1056x128 .f32) (arg11 : Memref sig .tc .vmem S1152x128 .f32)
variable (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (k : Fin k1_t2_loop.trips)
variable (x4 : S8x128.Idx → EReal) (x5 : S1536x2304.Idx → EReal) (x7 : S1024x2304.Idx → EReal) (x8 : S1024x128.Idx → EReal)

/-- The trip's matrix product. -/
def accA (x5 : S1536x2304.Idx → EReal) (x7 : S1024x2304.Idx → EReal) (k r t : ℕ) : EReal := ∑ q : Fin 2304, at2 x7 (k % 2 * 512 + r) q.val * at2 x5 (k / 2 * 256 + t) q.val

theorem acc_apply (h5 : ∀ B j, View.readAt (Elt Ideal) arg5.view B X5 j = x5 (B.idx j)) (h7 : ∀ B j, View.readAt (Elt Ideal) arg7.view B X7 j = x7 (B.idx j))
    (y : S512x256.Idx) : View.canon (accL (F := Ideal) arg5 arg7 X5 X7 k) y = accA x5 x7 k.val (y 0).val (y 1).val := by
  have e : View.canon (accL (F := Ideal) arg5 arg7 X5 X7 k) = k1_pay118 (F := Ideal) (trip_k1_t2.sl.r (F := Ideal) arg5 arg7 X5 X7 k) := by
    unfold accL trip_k1_t2.sl.HW_arg9_1
    exact View.canon_unit_zero (funext fun a => by fin_cases a <;> rfl) _ _
  rw [e]
  unfold k1_pay118 trip_k1_t2.sl.r k1_pay117
  pointwise
  unfold accA
  refine Finset.sum_congr rfl fun q _ => ?_
  rw [h7, h5, eq_at2 x7, eq_at2 x5]
  refine congrArg₂ (· * ·) (congrArg₂ _ ?_ ?_) (congrArg₂ _ ?_ ?_)
  · show k1_off23 k 0 + 1 * (y 0).val = _
    rw [(off23_val k).1, Nat.one_mul]
  · show k1_off23 k 1 + 1 * q.val = _
    rw [(off23_val k).2, Nat.one_mul, Nat.zero_add]
  · show k1_off24 k 0 + 1 * (y 1).val = _
    rw [(off24_val k).1, Nat.one_mul]
  · show k1_off24 k 1 + 1 * q.val = _
    rw [(off24_val k).2, Nat.one_mul, Nat.zero_add]

/-- Row `h` of block `c`, in lane `l`: the product scaled by its row's scale. -/
def lf (A R : ℕ → ℕ → EReal) (c h l : ℕ) : EReal := A (c % 4 * 128 + h) (c / 4 % 2 * 128 + l) * R (c % 4 * 128 + h) l

theorem leaf1_apply (h5 : ∀ B j, View.readAt (Elt Ideal) arg5.view B X5 j = x5 (B.idx j)) (h7 : ∀ B j, View.readAt (Elt Ideal) arg7.view B X7 j = x7 (B.idx j))
    (h8 : ∀ B j, View.readAt (Elt Ideal) arg8.view B X8 j = x8 (B.idx j)) (c j : ℕ) (x : S8x128.Idx) :
    leaf1 (F := Ideal) arg5 arg7 arg8 arg9 X5 X7 X8 k c j x = lf (accA x5 x7 k.val) (fun r l => at2 x8 (k.val % 2 * 512 + r) l) c (8 * (j % 16) + (x 0).val) (x 1).val := by
  unfold leaf1 lf
  rw [View.readCov_eq_canon']
  change (View.canon (accL (F := Ideal) arg5 arg7 X5 X7 k) _ : EReal) * (View.readAt (Elt Ideal) arg8.view (Rect.unit (s := S1024x128) _ S8x128.size (k1_off25_inb k ⟨c % 4 * 16 + j % 16, by omega⟩)).toLoadRect X8 x : EReal) = _
  rw [acc_apply arg5 arg7 X5 X7 k x5 x7 h5 h7, h8, eq_at2 x8]
  refine congrArg₂ (· * ·) (congrArg₂ _ ?_ ?_) (congrArg₂ _ ?_ ?_)
  · show c % 4 * 128 + 8 * (j % 16) + 1 * (x 0).val = _
    omega
  · show c / 4 % 2 * 128 + 1 * (x 1).val = _
    omega
  · show k1_off25 k (BitVec.ofNat 32 (8 * (c % 4 * 16 + j % 16))) 0 + 1 * (x 0).val = _
    rw [(off25_val k ⟨c % 4 * 16 + j % 16, by omega⟩).1]
    show k.val % 2 * 512 + 8 * (c % 4 * 16 + j % 16) + 1 * (x 0).val = _
    omega
  · show k1_off25 k (BitVec.ofNat 32 (8 * (c % 4 * 16 + j % 16))) 1 + 1 * (x 1).val = _
    rw [(off25_val k ⟨c % 4 * 16 + j % 16, by omega⟩).2]
    omega

/-- The first pass by coordinates: rows in blocks of 132, of which 128 are written. -/
def P1 (A R : ℕ → ℕ → EReal) (r l : ℕ) : EReal := bfE (fun j => lf A R (r / 132) (8 * (j % 16) + r % 132 % 8) l) 4 (r % 132 / 8)

theorem p1_apply (h5 : ∀ B j, View.readAt (Elt Ideal) arg5.view B X5 j = x5 (B.idx j)) (h7 : ∀ B j, View.readAt (Elt Ideal) arg7.view B X7 j = x7 (B.idx j))
    (h8 : ∀ B j, View.readAt (Elt Ideal) arg8.view B X8 j = x8 (B.idx j)) (y : S1056x128.Idx) (hy : (y 0).val % 132 < 128) :
    View.canon (pieces (p1Piece (F := Ideal) arg5 arg7 arg8 arg9 X5 X7 X8 k) 128) y
      = P1 (accA x5 x7 k.val) (fun r l => at2 x8 (k.val % 2 * 512 + r) l) (y 0).val (y 1).val := by
  have hy0 : (y 0).val < 1056 := (y 0).isLt
  have hy1 : (y 1).val < 128 := (y 1).isLt
  refine canon_pieces (S := S1056x128) (e := .f32) _ 128 (fun y => P1 (accA x5 x7 k.val) (fun r l => at2 x8 (k.val % 2 * 512 + r) l) (y 0).val (y 1).val) ?_ y
    ((y 0).val / 132 * 16 + (y 0).val % 132 / 8) (by omega) ?_
  · intro n hn (x : S8x128.Idx)
    have hx : (x 0).val < 8 := (x 0).isLt
    have e0 : ((p1Piece (F := Ideal) arg5 arg7 arg8 arg9 X5 X7 X8 k n).1.emb x 0).val = n / 16 % 8 * 132 + 8 * (n % 16) + (x 0).val := by
      show n / 16 % 8 * 132 + 8 * (n % 16) + 1 * (x 0).val = _
      omega
    have e1 : ((p1Piece (F := Ideal) arg5 arg7 arg8 arg9 X5 X7 X8 k n).1.emb x 1).val = (x 1).val := by
      show 0 + 1 * (x 1).val = _
      omega
    refine (congrFun (shapeCast_self _ _) x).trans ((bf_apply _ x _ _).trans ?_)
    show _ = P1 _ _ _ _
    rw [e0, e1]
    unfold P1
    have hb : 8 * (n % 16) + (x 0).val < 132 := by omega
    rw [Nat.add_assoc, div_blk hb, mod_blk hb, show (8 * (n % 16) + (x 0).val) / 8 = n % 16 by omega,
      show (8 * (n % 16) + (x 0).val) % 8 = (x 0).val by omega]
    exact bfE_congr (fun j => leaf1_apply arg5 arg7 arg8 arg9 X5 X7 X8 k x5 x7 x8 h5 h7 h8 _ _ _) _ _
  · refine (Rect.mem_set_unit (inb := inb_p1 _)).mpr fun a => ?_
    match a with
    | ⟨0, _⟩ =>
      show ((y 0).val / 132 * 16 + (y 0).val % 132 / 8) / 16 % 8 * 132 + 8 * (((y 0).val / 132 * 16 + (y 0).val % 132 / 8) % 16) ≤ (y 0).val
        ∧ (y 0).val < ((y 0).val / 132 * 16 + (y 0).val % 132 / 8) / 16 % 8 * 132 + 8 * (((y 0).val / 132 * 16 + (y 0).val % 132 / 8) % 16) + 8
      rw [div_blk (by omega : (y 0).val % 132 / 8 < 16), mod_blk (by omega : (y 0).val % 132 / 8 < 16)]
      omega
    | ⟨1, _⟩ =>
      show 0 ≤ (y 1).val ∧ (y 1).val < 0 + 128
      omega

/-- The second pass by coordinates: rows in blocks of nine, of which eight are written. -/
def P2 (A R : ℕ → ℕ → EReal) (r l : ℕ) : EReal := bfE (fun i => P1 A R (132 * (r % 9) + 8 * (r / 9 / 8) + i % 8) l) 3 (r / 9 % 8)

theorem p2_apply (h5 : ∀ B j, View.readAt (Elt Ideal) arg5.view B X5 j = x5 (B.idx j)) (h7 : ∀ B j, View.readAt (Elt Ideal) arg7.view B X7 j = x7 (B.idx j))
    (h8 : ∀ B j, View.readAt (Elt Ideal) arg8.view B X8 j = x8 (B.idx j)) (y : S1152x128.Idx) (hy : (y 0).val % 9 < 8) :
    View.canon (pieces (p2Piece (F := Ideal) arg5 arg7 arg8 arg9 arg10 X5 X7 X8 k) 128) y
      = P2 (accA x5 x7 k.val) (fun r l => at2 x8 (k.val % 2 * 512 + r) l) (y 0).val (y 1).val := by
  have hy0 : (y 0).val < 1152 := (y 0).isLt
  have hy1 : (y 1).val < 128 := (y 1).isLt
  refine canon_pieces (S := S1152x128) (e := .f32) _ 128 (fun y => P2 (accA x5 x7 k.val) (fun r l => at2 x8 (k.val % 2 * 512 + r) l) (y 0).val (y 1).val) ?_ y
    ((y 0).val / 9) (by omega) ?_
  · intro n hn (x : S8x128.Idx)
    have hx : (x 0).val < 8 := (x 0).isLt
    have e0 : ((p2Piece (F := Ideal) arg5 arg7 arg8 arg9 arg10 X5 X7 X8 k n).1.emb x 0).val = n * 9 + (x 0).val := by
      show n % 128 * 9 + 1 * (x 0).val = _
      omega
    have e1 : ((p2Piece (F := Ideal) arg5 arg7 arg8 arg9 arg10 X5 X7 X8 k n).1.emb x 1).val = (x 1).val := by
      show 0 + 1 * (x 1).val = _
      omega
    refine (congrFun (shapeCast_self _ _) x).trans ((bf_apply _ x _ _).trans ?_)
    show _ = P2 _ _ _ _
    rw [e0, e1]
    unfold P2
    rw [div_blk (by omega : (x 0).val < 9)]
    refine bfE_congr (fun i => ?_) _ _
    unfold leaf2
    rw [View.readCov_eq_canon']
    refine (p1_apply arg5 arg7 arg8 arg9 X5 X7 X8 k x5 x7 x8 h5 h7 h8 _ ?_).trans ?_
    · show (8 * (n / 8 % 16) + i % 8 + 132 * (x 0).val) % 132 < 128
      rw [Nat.add_mul_mod_self_left, Nat.mod_eq_of_lt (by omega)]
      omega
    · refine congrArg₂ _ ?_ ?_
      · show 8 * (n / 8 % 16) + i % 8 + 132 * (x 0).val = 132 * ((n * 9 + (x 0).val) % 9) + 8 * (n / 8) + i % 8
        rw [mod_blk (by omega : (x 0).val < 9)]
        omega
      · show 0 + 1 * (x 1).val = _
        omega
  · refine (Rect.mem_set_unit (inb := inb_p2 _)).mpr fun a => ?_
    match a with
    | ⟨0, _⟩ =>
      show _ % 128 * 9 ≤ (y 0).val ∧ (y 0).val < _ % 128 * 9 + 8
      omega
    | ⟨1, _⟩ =>
      show 0 ≤ (y 1).val ∧ (y 1).val < 0 + 128
      omega

theorem leaf3_apply (h5 : ∀ B j, View.readAt (Elt Ideal) arg5.view B X5 j = x5 (B.idx j)) (h7 : ∀ B j, View.readAt (Elt Ideal) arg7.view B X7 j = x7 (B.idx j))
    (h8 : ∀ B j, View.readAt (Elt Ideal) arg8.view B X8 j = x8 (B.idx j)) (n k' : ℕ) (x : S8x128.Idx) :
    leaf3 (F := Ideal) arg5 arg7 arg8 arg9 arg10 arg11 X5 X7 X8 k n k' x
      = P2 (accA x5 x7 k.val) (fun r l => at2 x8 (k.val % 2 * 512 + r) l) ((8 * (k' % 16) + (x 0).val) * 9 + n % 8) (x 1).val := by
  unfold leaf3
  rw [View.readCov_eq_canon']
  refine (p2_apply arg5 arg7 arg8 arg9 arg10 X5 X7 X8 k x5 x7 x8 h5 h7 h8 _ ?_).trans ?_
  · show (72 * (k' % 16) + n % 8 + 9 * (x 0).val) % 9 < 8
    omega
  · refine congrArg₂ _ ?_ ?_
    · show 72 * (k' % 16) + n % 8 + 9 * (x 0).val = _
      omega
    · show 0 + 1 * (x 1).val = _
      omega

/-- The bits of the constant `2 ^ (-7/2)` rounded. -/
def hadScale : EReal := (FloatOps.ofBits FTy.f32 1035273459#32 : Ideal .f32)

theorem yPiece_apply (h4 : ∀ B j, View.readAt (Elt Ideal) arg4.view B X4 j = x4 (B.idx j)) (h5 : ∀ B j, View.readAt (Elt Ideal) arg5.view B X5 j = x5 (B.idx j)) (h7 : ∀ B j, View.readAt (Elt Ideal) arg7.view B X7 j = x7 (B.idx j))
    (h8 : ∀ B j, View.readAt (Elt Ideal) arg8.view B X8 j = x8 (B.idx j)) (n : ℕ) (hn : n < 8) (x : S128x128.Idx) :
    (yPiece (F := Ideal) arg4 arg5 arg7 arg8 arg9 arg10 arg11 X4 X5 X7 X8 k n).2 x
      = P2 (accA x5 x7 k.val) (fun r l => at2 x8 (k.val % 2 * 512 + r) l) ((x 1).val * 9 + n) (x 0).val * (at2 x4 (k.val % 2 * 4 + n % 4) (x 1).val * hadScale) := by
  have hx0 : (x 0).val < 128 := (x 0).isLt
  have hx1 : (x 1).val < 128 := (x 1).isLt
  unfold yPiece
  change (transpose S128x128 [1, 0] _ _ x : EReal) * (broadcastTo S128x128 _ _ x : EReal) = _
  refine congrArg₂ (· * ·) ?_ ?_
  · refine (transpose_apply [1, 0] _ _ x (ix2 (⟨(x 1).val, hx1⟩ : Fin 128) (⟨(x 0).val, hx0⟩ : Fin 128)) (fun b => by match b with | ⟨0, _⟩ => rfl | ⟨1, _⟩ => rfl)).trans ?_
    refine concatenate_range (t := S128x128) (s := S8x128) 0 16 8 (leaf3 (F := Ideal) arg5 arg7 arg8 arg9 arg10 arg11 X5 X7 X8 k n) _ rfl rfl (ix2 (⟨(x 1).val, hx1⟩ : Fin 128) (⟨(x 0).val, hx0⟩ : Fin 128)) _ ?_
    intro q hq i h1 h2
    have h1 : q * 8 + (i 0).val = (x 1).val := h1
    have h2 : (i 1).val = (x 0).val := h2 1 (by decide)
    rw [leaf3_apply arg5 arg7 arg8 arg9 arg10 arg11 X5 X7 X8 k x5 x7 x8 h5 h7 h8, h2, ← h1]
    refine congrArg₂ _ ?_ rfl
    omega
  · refine (broadcastTo_apply _ _ x (ix2 (0 : Fin 1) (⟨(x 1).val, hx1⟩ : Fin 128)) (fun b => by match b with | ⟨0, _⟩ => rfl | ⟨1, _⟩ => rfl)).trans ?_
    change (shapeCast S1x128 _ _ _ : EReal) * hadScale = _
    refine (congrArg (· * hadScale) ((congrFun (shapeCast_self _ _) _).trans ((h4 _ _).trans (eq_at2 x4 _)))).trans ?_
    refine congrArg (· * hadScale) (congrArg₂ _ ?_ ?_)
    · show k1_off26 k (BitVec.ofNat 32 (n % 4)) 0 + 1 * 0 = _
      rw [(off26_val k ⟨n % 4, by omega⟩).1]
      rfl
    · show k1_off26 k (BitVec.ofNat 32 (n % 4)) 1 + 1 * (x 1).val = _
      rw [(off26_val k ⟨n % 4, by omega⟩).2]
      omega

/-- The two passes together are the butterfly of the 128 rows of a block. -/
theorem P2_eq (A R : ℕ → ℕ → EReal) (h c l : ℕ) (hh : h < 128) (hc : c < 8) : P2 A R (h * 9 + c) l = bf128 (fun r => lf A R c r l) h := by
  unfold P2 bf128
  rw [div_blk (by omega : c < 9), mod_blk (by omega : c < 9)]
  refine bfE_congr (fun b => ?_) _ _
  unfold P1
  have hb : 8 * (h / 8) + b % 8 < 132 := by omega
  rw [Nat.add_assoc, Nat.mul_comm 132, div_blk hb, mod_blk hb, show (8 * (h / 8) + b % 8) / 8 = h / 8 by omega,
    show (8 * (h / 8) + b % 8) % 8 = b % 8 by omega]

end Cert.KernelIdeal.Whole

end
-- ==== Proof.OutValue.lean ====
/- The output block of one step of the second call, over the extended reals, by coordinates. -/
module

public import proofs.«01_k».proof.Proof.TripValue
public import Idealize.ShloMosaic.Lib.WholeRead

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

variable (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
variable (X4 : BufTy.Contents (Elt Ideal) arg4.view.ty) (X5 : BufTy.Contents (Elt Ideal) arg5.view.ty) (X7 : BufTy.Contents (Elt Ideal) arg7.view.ty) (X8 : BufTy.Contents (Elt Ideal) arg8.view.ty)
variable (x4 : S8x128.Idx → EReal) (x5 : S1536x2304.Idx → EReal) (x7 : S1024x2304.Idx → EReal) (x8 : S1024x128.Idx → EReal)

/-- The output block by coordinates: the butterfly of the scaled products of a column group, times the column's factor. -/
def Yv (x4 : S8x128.Idx → EReal) (x5 : S1536x2304.Idx → EReal) (x7 : S1024x2304.Idx → EReal) (x8 : S1024x128.Idx → EReal) (row col : ℕ) : EReal :=
  bf128 (fun h => (∑ q : Fin 2304, at2 x7 (col / 128 * 128 + h) q.val * at2 x5 row q.val) * at2 x8 (col / 128 * 128 + h) (row % 128)) (col % 128)
    * (at2 x4 (col / 128) (col % 128) * hadScale)

theorem mem_outsTo : ∀ (n : ℕ) (p : View.Piece (Elt Ideal) S1536x1024 .bf16), p ∈ outsTo (F := Ideal) c i arg1 harg1 arg2 harg2 arg3 harg3 arg4 harg4 arg5 harg5 arg6 harg6 arg7 harg7 arg8 harg8 arg9 harg9 arg10 harg10 arg11 harg11 X4 X5 X7 X8 n →
    ∃ (k : Fin k1_t2_loop.trips) (m : ℕ), m < 8 ∧ p = yPiece (F := Ideal) arg4 arg5 arg7 arg8 arg9 arg10 arg11 X4 X5 X7 X8 k m
  | 0, p, h => by simp [outsTo] at h
  | n + 1, p, h => by
    unfold outsTo at h
    rcases List.mem_append.mp h with h | h
    · split at h
      · rename_i hn
        rw [tripOut_pieces] at h
        obtain ⟨m, hm, e⟩ := mem_pieces h
        exact ⟨⟨n, hn⟩, m, hm, e⟩
      · simp at h
    · exact mem_outsTo n p h

theorem outsTo_apply (h4 : ∀ B j, View.readAt (Elt Ideal) arg4.view B X4 j = x4 (B.idx j)) (h5 : ∀ B j, View.readAt (Elt Ideal) arg5.view B X5 j = x5 (B.idx j)) (h7 : ∀ B j, View.readAt (Elt Ideal) arg7.view B X7 j = x7 (B.idx j))
    (h8 : ∀ B j, View.readAt (Elt Ideal) arg8.view B X8 j = x8 (B.idx j)) (y : S1536x1024.Idx)
    (hy : ∃ p ∈ outsTo (F := Ideal) c i arg1 harg1 arg2 harg2 arg3 harg3 arg4 harg4 arg5 harg5 arg6 harg6 arg7 harg7 arg8 harg8 arg9 harg9 arg10 harg10 arg11 harg11 X4 X5 X7 X8 k1_t2_loop.trips, y ∈ p.1.set) :
    View.canon (outsTo (F := Ideal) c i arg1 harg1 arg2 harg2 arg3 harg3 arg4 harg4 arg5 harg5 arg6 harg6 arg7 harg7 arg8 harg8 arg9 harg9 arg10 harg10 arg11 harg11 X4 X5 X7 X8 k1_t2_loop.trips) y = Yv x4 x5 x7 x8 (y 0).val (y 1).val := by
  refine View.canon_apply_of_pieces (S := S1536x1024) (e := .bf16) (fun y => Yv x4 x5 x7 x8 (y 0).val (y 1).val) _ (fun p hp => ?_) y hy
  obtain ⟨k, m, hm, rfl⟩ := mem_outsTo c i arg1 harg1 arg2 harg2 arg3 harg3 arg4 harg4 arg5 harg5 arg6 harg6 arg7 harg7 arg8 harg8 arg9 harg9 arg10 harg10 arg11 harg11 X4 X5 X7 X8 _ p hp
  intro (x : S128x128.Idx)
  have hx0 : (x 0).val < 128 := (x 0).isLt
  have hx1 : (x 1).val < 128 := (x 1).isLt
  refine (yPiece_apply arg4 arg5 arg7 arg8 arg9 arg10 arg11 X4 X5 X7 X8 k x4 x5 x7 x8 h4 h5 h7 h8 m hm x).trans ?_
  have e0 : ((yPiece (F := Ideal) arg4 arg5 arg7 arg8 arg9 arg10 arg11 X4 X5 X7 X8 k m).1.emb x 0).val = k.val / 2 * 256 + 128 * (m / 4 % 2) + (x 0).val := by
    show k1_off27 k (BitVec.ofNat 32 (128 * (m / 4 % 2))) (BitVec.ofNat 32 (128 * (m % 4))) 0 + 1 * (x 0).val = _
    rw [(off27_val k ⟨m / 4 % 2, by omega⟩ ⟨m % 4, by omega⟩).1, Nat.one_mul]
  have e1 : ((yPiece (F := Ideal) arg4 arg5 arg7 arg8 arg9 arg10 arg11 X4 X5 X7 X8 k m).1.emb x 1).val = k.val % 2 * 512 + 128 * (m % 4) + (x 1).val := by
    show k1_off27 k (BitVec.ofNat 32 (128 * (m / 4 % 2))) (BitVec.ofNat 32 (128 * (m % 4))) 1 + 1 * (x 1).val = _
    rw [(off27_val k ⟨m / 4 % 2, by omega⟩ ⟨m % 4, by omega⟩).2, Nat.one_mul]
  show _ = Yv x4 x5 x7 x8 _ _
  rw [e0, e1, P2_eq _ _ _ _ _ hx1 hm]
  unfold Yv
  have d : (k.val % 2 * 512 + 128 * (m % 4) + (x 1).val) / 128 = k.val % 2 * 4 + m % 4 := by omega
  have d' : (k.val % 2 * 512 + 128 * (m % 4) + (x 1).val) % 128 = (x 1).val := by omega
  have d2 : (k.val / 2 * 256 + 128 * (m / 4 % 2) + (x 0).val) % 128 = (x 0).val := by omega
  rw [d, d', d2]
  refine congrArg (· * _) ?_
  refine congrArg (fun v => bf128 v (x 1).val) (funext fun h => ?_)
  unfold lf accA
  rw [show k.val % 2 * 512 + (m % 4 * 128 + h) = (k.val % 2 * 4 + m % 4) * 128 + h by omega,
    show k.val / 2 * 256 + (m / 4 % 2 * 128 + (x 0).val) = k.val / 2 * 256 + 128 * (m / 4 % 2) + (x 0).val by omega]
  show _ * at2 x8 (k.val % 2 * 512 + (m % 4 * 128 + h)) (x 0).val = _
  rw [show k.val % 2 * 512 + (m % 4 * 128 + h) = (k.val % 2 * 4 + m % 4) * 128 + h by omega]

/-- The output block of the step, of its input blocks. -/
theorem out1_apply (x0 : Vec Ideal S1024x288 .i16) (x1 : Vec Ideal S1024x9 .f32) (x2 : Vec Ideal S8x128 .f32) (x3 : Vec Ideal S8x128 .f32) (x4' : Vec Ideal S1536x2304 .bf16) (y : S1536x1024.Idx) :
    out1 (F := Ideal) c i arg1 harg1 arg2 harg2 arg3 harg3 arg4 harg4 arg5 harg5 arg6 harg6 arg7 harg7 arg8 harg8 arg9 harg9 arg10 harg10 arg11 harg11 x0 x1 x2 x3 x4' y
      = Yv x3 x4' (View.canon (wtL (F := Ideal) c i arg1 harg1 arg2 harg2 arg3 harg3 arg4 harg4 arg5 harg5 arg6 harg6 arg7 harg7 arg8 harg8 arg9 harg9 arg10 harg10 arg11 harg11 x0 x1)) (View.canon (kernelRun1.sl.HS1_8 c arg3 harg3 x2)) (y 0).val (y 1).val := by
  unfold out1 outL
  refine outsTo_apply c i arg1 harg1 arg2 harg2 arg3 harg3 arg4 harg4 arg5 harg5 arg6 harg6 arg7 harg7 arg8 harg8 arg9 harg9 arg10 harg10 arg11 harg11 _ _ _ _ x3 x4' _ _ ?_ ?_ ?_ ?_ y (outL_cover (F := Ideal) c i arg1 harg1 arg2 harg2 arg3 harg3 arg4 harg4 arg5 harg5 arg6 harg6 arg7 harg7 arg8 harg8 arg9 harg9 arg10 harg10 arg11 harg11 x0 x1 x2 x3 x4' y)
  · exact fun B j => Idealize.ShloMosaic.Memref.IsWhole.readAt_unread harg4 _ _ _
  · exact fun B j => Idealize.ShloMosaic.Memref.IsWhole.readAt_unread harg5 _ _ _
  · exact fun B j => Idealize.ShloMosaic.Memref.IsWhole.readAt_unread harg7 _ _ _
  · intro B j
    unfold rsBuf
    exact congrFun (View.readAt_writes_junk_eq_canon _ _ _) j

end Cert.KernelIdeal.Whole

end
-- ==== Proof.DecBits.lean ====
/- The bits of the trellis decoder: the state of a window of two words, one step of the generator, the two halves as floats. -/
module

public import Idealize.ShloMosaic.Lib.Pipeline.Value
public import Idealize.ShloMosaic.Lib.Pointwise

@[expose] public section

noncomputable section

namespace Cert.Val

open Idealize.ShloMosaic

/-- A matrix of words read at two natural numbers, zero outside. -/
def atB {n m : ℕ} (v : (⟨2, ![n, m]⟩ : Shape).Idx → BitVec 16) (r c : ℕ) : BitVec 16 :=
  if h : r < n ∧ c < m then v (ix2 ⟨r, h.1⟩ ⟨c, h.2⟩) else 0

theorem eq_atB {n m : ℕ} (v : (⟨2, ![n, m]⟩ : Shape).Idx → BitVec 16) (y : (⟨2, ![n, m]⟩ : Shape).Idx) :
    v y = atB v (y 0).val (y 1).val := by
  unfold atB
  rw [dif_pos ⟨(y 0).isLt, (y 1).isLt⟩]
  refine congrArg v (funext fun a => ?_)
  match a with
  | ⟨0, _⟩ => rfl
  | ⟨1, _⟩ => rfl

/-- One step of the generator. -/
def stepB (s : BitVec 32) : BitVec 32 := IntOp.addi (IntOp.muli s 89226354#32) 64248484#32

/-- The upper half of a word as the bits of a float32. -/
def halfB (v : BitVec 32) : BitVec 32 := IntOp.xori (IntOp.andi (IntOp.shrsi .vector v 3#32) 2181029888#32) 1064042496#32

/-- The decoded value of a 16-bit state. -/
def decB (s : BitVec 32) : EReal := Ideal.ofBits FTy.f32 (halfB (stepB s)) + Ideal.ofBits FTy.f32 (halfB (IntOp.shli .vector (stepB s) 16#32))

/-- The state of the window of two neighbouring words at field `f`. -/
def stB (c n : BitVec 16) (f : ℕ) : BitVec 32 := IntOp.shrui .vector (IntOp.shli .vector (c ++ n) (BitVec.ofNat 32 (2 * f))) 16#32

theorem ev_bits (a b c d : BitVec 16) : IntOp.ori (IntOp.shli .vector (a ++ b) 16#32) (IntOp.andi (c ++ d) 65535#32) = b ++ d := by
  show ((a ++ b) <<< 16) ||| ((c ++ d) &&& 65535#32) = b ++ d
  have h : ∀ i < 32, (65535#32).getLsbD i = decide (i < 16) := by decide
  apply BitVec.eq_of_getLsbD_eq
  intro i hi
  simp only [BitVec.getLsbD_or, BitVec.getLsbD_and, BitVec.getLsbD_shiftLeft, BitVec.getLsbD_append, h i hi]
  by_cases h1 : i < 16
  · simp [h1]
  · simp [h1, hi, show i - 16 < 16 by omega]

theorem od_bits (a b c d : BitVec 16) : IntOp.ori (IntOp.andi (a ++ b) 4294901760#32) (IntOp.shrui .vector (c ++ d) 16#32) = a ++ c := by
  show ((a ++ b) &&& 4294901760#32) ||| ((c ++ d) >>> 16) = a ++ c
  have h : ∀ i < 32, (4294901760#32).getLsbD i = decide (16 ≤ i) := by decide
  apply BitVec.eq_of_getLsbD_eq
  intro i hi
  simp only [BitVec.getLsbD_or, BitVec.getLsbD_and, BitVec.getLsbD_ushiftRight, BitVec.getLsbD_append, h i hi]
  by_cases h1 : i < 16
  · simp [h1, show ¬ (16 ≤ i) by omega]
  · simp [h1, hi, show 16 ≤ i by omega]

end Cert.Val

end
-- ==== Proof.Decode.lean ====
/- One trip of the second call's first loop, as data: the eighteen blocks of 16 rows and 128 columns it decodes, in closed
   form. The list the execution built is this one by computation. -/
module

public import proofs.«01_k».proof.Proof.Trip

@[expose] public section

set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state of the generator after one step. -/
noncomputable def stepW (s : IVec S8x128 32) : IVec S8x128 32 := addi (muli s (broadcast S8x128 89226354#32)) (broadcast S8x128 64248484#32)

/-- The upper half of each word as the bits of a float32. -/
noncomputable def halfW (v : IVec S8x128 32) : IVec S8x128 32 := xori (andi (shrsi v (broadcast S8x128 3#32)) (broadcast S8x128 2181029888#32)) (broadcast S8x128 1064042496#32)

/-- The decoded values of 16-bit states. -/
noncomputable def decW (s : IVec S8x128 32) : Vec F S8x128 .f32 :=
  addf (bitcastToFloat .f32 (halfW (stepW s)) : Vec F S8x128 .f32) (bitcastToFloat .f32 (halfW (shli (stepW s) (broadcast S8x128 16#32))))

/-- The states at a shift of the windows. -/
noncomputable def stW (w sh : IVec S8x128 32) : IVec S8x128 32 := shrui (shli w sh) (broadcast S8x128 16#32)

/-- One decoded block: even rows of one family of windows, odd rows of the other, times the scale. -/
noncomputable def blkW (ev od sh : IVec S8x128 32) (sc : Vec F S16x128 .bf16) : Vec F S16x128 .bf16 :=
  shapeCast S16x128 (mulf (interleaveRows S16x128 (truncf .bf16 (decW (F := F) (stW ev sh)) bitsLt_bf16_f32) (truncf .bf16 (decW (F := F) (stW od sh)) bitsLt_bf16_f32) bitcasts_S16x128_w16_S8x128_w32 : Vec F S16x128 .bf16) sc) shapeCasts_S16x128_S16x128

noncomputable def evW (cur nxt : IVec S8x128 32) : IVec S8x128 32 := ori (shli cur (broadcast S8x128 16#32)) (andi nxt (broadcast S8x128 65535#32))
noncomputable def odW (cur nxt : IVec S8x128 32) : IVec S8x128 32 := ori (andi cur (broadcast S8x128 4294901760#32)) (shrui nxt (broadcast S8x128 16#32))

/-- The neighbouring words of a tile of four trellises, cyclic in each. -/
noncomputable def nxtW (cur : IVec S8x128 32) : IVec S8x128 32 :=
  select (cmpi .eq trip_k1_t1.sl.v90 (broadcast S8x128 31#32)) (dynamicRotate 1 (31#32) none cur rotates_S8x128_d1) (dynamicRotate 1 (127#32) none cur rotates_S8x128_d1)

section
variable (arg1 : Memref sig .tc .vmem S1024x288 .i16) (arg2 : Memref sig .tc .vmem S1024x9 .f32) (X1 : BufTy.Contents (Elt F) arg1.view.ty) (X2 : BufTy.Contents (Elt F) arg2.view.ty) (k : Fin k1_t1_loop.trips)

noncomputable def curA : IVec S8x128 32 := bitcast S8x128 32 (View.readAt (Elt F) arg1.view (Rect.unit (s := S1024x288) (k1_off2 k) S16x128.size (k1_off2_inb k)).toLoadRect X1 : IVec S16x128 16) bitcasts_S16x128_w16_S8x128_w32
noncomputable def curB : IVec S8x128 32 := bitcast S8x128 32 (View.readAt (Elt F) arg1.view (Rect.unit (s := S1024x288) (k1_off11 k) S16x128.size (k1_off11_inb k)).toLoadRect X1 : IVec S16x128 16) bitcasts_S16x128_w16_S8x128_w32
noncomputable def curL0 : IVec S8x32 32 := bitcast S8x32 32 (View.readAt (Elt F) arg1.view (Rect.unit (s := S1024x288) (k1_off20 k) S16x32.size (k1_off20_inb k)).toLoadRect X1 : IVec S16x32 16) bitcasts_S16x32_w16_S8x32_w32
noncomputable def curL : IVec S8x128 32 := concatenate S8x128 1 [⟨S8x32, curL0 arg1 X1 k⟩, ⟨S8x32, curL0 arg1 X1 k⟩, ⟨S8x32, curL0 arg1 X1 k⟩, ⟨S8x32, curL0 arg1 X1 k⟩] concatenates_S8x32_S8x32_S8x32_S8x32_S8x128_d1
noncomputable def nxtL : IVec S8x128 32 := dynamicRotate 1 (127#32) none (curL arg1 X1 k) rotates_S8x128_d1

/-- The 16 tokens of group scales of the trip. -/
noncomputable def gsW : Vec F S16x9 .f32 := View.readAt (Elt F) arg2.view (Rect.unit (s := S1024x9) (k1_off1 k) S16x9.size (k1_off1_inb k)).toLoadRect X2

/-- The scales of the two tiles and of the last trellis. -/
noncomputable def scA : Vec F S16x128 .bf16 := trip_k1_t1.sl.r_1 (F := F) arg2 X2 k
noncomputable def scB : Vec F S16x128 .bf16 := trip_k1_t1.sl.r_24 (F := F) arg2 X2 k
noncomputable def scL : Vec F S16x128 .bf16 := k1_pay99 (gsW arg2 X2 k)

/-- Column `t` of the trip's group scales, on every lane. -/
noncomputable def col0 (g : Vec F S16x9 .f32) : Vec F S16x128 .f32 := broadcastTo S16x128 (shapeCast S16x1 (extractStridedSlice S16x1 ![0, 0] g slices_S16x9_o0_0_S16x1) shapeCasts_S16x1_S16x1) broadcasts_S16x1_S16x128
noncomputable def col1 (g : Vec F S16x9 .f32) : Vec F S16x128 .f32 := broadcastTo S16x128 (shapeCast S16x1 (extractStridedSlice S16x1 ![0, 1] g slices_S16x9_o0_1_S16x1) shapeCasts_S16x1_S16x1) broadcasts_S16x1_S16x128
noncomputable def col2 (g : Vec F S16x9 .f32) : Vec F S16x128 .f32 := broadcastTo S16x128 (shapeCast S16x1 (extractStridedSlice S16x1 ![0, 2] g slices_S16x9_o0_2_S16x1) shapeCasts_S16x1_S16x1) broadcasts_S16x1_S16x128
noncomputable def col3 (g : Vec F S16x9 .f32) : Vec F S16x128 .f32 := broadcastTo S16x128 (shapeCast S16x1 (extractStridedSlice S16x1 ![0, 3] g slices_S16x9_o0_3_S16x1) shapeCasts_S16x1_S16x1) broadcasts_S16x1_S16x128
noncomputable def col4 (g : Vec F S16x9 .f32) : Vec F S16x128 .f32 := broadcastTo S16x128 (shapeCast S16x1 (extractStridedSlice S16x1 ![0, 4] g slices_S16x9_o0_4_S16x1) shapeCasts_S16x1_S16x1) broadcasts_S16x1_S16x128
noncomputable def col5 (g : Vec F S16x9 .f32) : Vec F S16x128 .f32 := broadcastTo S16x128 (shapeCast S16x1 (extractStridedSlice S16x1 ![0, 5] g slices_S16x9_o0_5_S16x1) shapeCasts_S16x1_S16x1) broadcasts_S16x1_S16x128
noncomputable def col6 (g : Vec F S16x9 .f32) : Vec F S16x128 .f32 := broadcastTo S16x128 (shapeCast S16x1 (extractStridedSlice S16x1 ![0, 6] g slices_S16x9_o0_6_S16x1) shapeCasts_S16x1_S16x1) broadcasts_S16x1_S16x128
noncomputable def col7 (g : Vec F S16x9 .f32) : Vec F S16x128 .f32 := broadcastTo S16x128 (shapeCast S16x1 (extractStridedSlice S16x1 ![0, 7] g slices_S16x9_o0_7_S16x1) shapeCasts_S16x1_S16x1) broadcasts_S16x1_S16x128

/-- The scales of a tile: four trellises of 32 lanes. -/
noncomputable def sel4 (c0 c1 c2 c3 : Vec F S16x128 .f32) : Vec F S16x128 .bf16 :=
  truncf .bf16 (select (cmpi .eq trip_k1_t1.sl.v132 (broadcast S16x128 3#32)) c3 (select (cmpi .eq trip_k1_t1.sl.v132 (broadcast S16x128 2#32)) c2
    (select (cmpi .eq trip_k1_t1.sl.v132 (broadcast S16x128 1#32)) c1 c0))) bitsLt_bf16_f32

theorem scA_eq : scA (F := F) arg2 X2 k = sel4 (col0 (gsW arg2 X2 k)) (col1 (gsW arg2 X2 k)) (col2 (gsW arg2 X2 k)) (col3 (gsW arg2 X2 k)) := by
  sl_kernel_rfl
theorem scB_eq : scB (F := F) arg2 X2 k = sel4 (col4 (gsW arg2 X2 k)) (col5 (gsW arg2 X2 k)) (col6 (gsW arg2 X2 k)) (col7 (gsW arg2 X2 k)) := by
  sl_kernel_rfl

noncomputable def wVal (q : ℕ) : Vec F S16x128 .bf16 :=
  if q < 8 then blkW (evW (curA arg1 X1 k) (nxtW (curA arg1 X1 k))) (odW (curA arg1 X1 k) (nxtW (curA arg1 X1 k))) (broadcast S8x128 (BitVec.ofNat 32 (2 * (q % 8)))) (scA arg2 X2 k)
  else if q < 16 then blkW (evW (curB arg1 X1 k) (nxtW (curB arg1 X1 k))) (odW (curB arg1 X1 k) (nxtW (curB arg1 X1 k))) (broadcast S8x128 (BitVec.ofNat 32 (2 * (q % 8)))) (scB arg2 X2 k)
  else blkW (evW (curL arg1 X1 k) (nxtL arg1 X1 k)) (odW (curL arg1 X1 k) (nxtL arg1 X1 k)) (if q = 16 then trip_k1_t1.sl.v1286 else trip_k1_t1.sl.v1369) (scL arg2 X2 k)

noncomputable def wList : List (View.Piece (Elt F) S1024x2304 .bf16) :=
  [⟨Rect.unit (s := S1024x2304) (k1_off22 k) S16x128.size (k1_off22_inb k), wVal arg1 arg2 X1 X2 k 17⟩,
   ⟨Rect.unit (s := S1024x2304) (k1_off21 k) S16x128.size (k1_off21_inb k), wVal arg1 arg2 X1 X2 k 16⟩,
   ⟨Rect.unit (s := S1024x2304) (k1_off19 k) S16x128.size (k1_off19_inb k), wVal arg1 arg2 X1 X2 k 15⟩,
   ⟨Rect.unit (s := S1024x2304) (k1_off18 k) S16x128.size (k1_off18_inb k), wVal arg1 arg2 X1 X2 k 14⟩,
   ⟨Rect.unit (s := S1024x2304) (k1_off17 k) S16x128.size (k1_off17_inb k), wVal arg1 arg2 X1 X2 k 13⟩,
   ⟨Rect.unit (s := S1024x2304) (k1_off16 k) S16x128.size (k1_off16_inb k), wVal arg1 arg2 X1 X2 k 12⟩,
   ⟨Rect.unit (s := S1024x2304) (k1_off15 k) S16x128.size (k1_off15_inb k), wVal arg1 arg2 X1 X2 k 11⟩,
   ⟨Rect.unit (s := S1024x2304) (k1_off14 k) S16x128.size (k1_off14_inb k), wVal arg1 arg2 X1 X2 k 10⟩,
   ⟨Rect.unit (s := S1024x2304) (k1_off13 k) S16x128.size (k1_off13_inb k), wVal arg1 arg2 X1 X2 k 9⟩,
   ⟨Rect.unit (s := S1024x2304) (k1_off12 k) S16x128.size (k1_off12_inb k), wVal arg1 arg2 X1 X2 k 8⟩,
   ⟨Rect.unit (s := S1024x2304) (k1_off10 k) S16x128.size (k1_off10_inb k), wVal arg1 arg2 X1 X2 k 7⟩,
   ⟨Rect.unit (s := S1024x2304) (k1_off9 k) S16x128.size (k1_off9_inb k), wVal arg1 arg2 X1 X2 k 6⟩,
   ⟨Rect.unit (s := S1024x2304) (k1_off8 k) S16x128.size (k1_off8_inb k), wVal arg1 arg2 X1 X2 k 5⟩,
   ⟨Rect.unit (s := S1024x2304) (k1_off7 k) S16x128.size (k1_off7_inb k), wVal arg1 arg2 X1 X2 k 4⟩,
   ⟨Rect.unit (s := S1024x2304) (k1_off6 k) S16x128.size (k1_off6_inb k), wVal arg1 arg2 X1 X2 k 3⟩,
   ⟨Rect.unit (s := S1024x2304) (k1_off5 k) S16x128.size (k1_off5_inb k), wVal arg1 arg2 X1 X2 k 2⟩,
   ⟨Rect.unit (s := S1024x2304) (k1_off4 k) S16x128.size (k1_off4_inb k), wVal arg1 arg2 X1 X2 k 1⟩,
   ⟨Rect.unit (s := S1024x2304) (k1_off3 k) S16x128.size (k1_off3_inb k), wVal arg1 arg2 X1 X2 k 0⟩]

theorem mem_wList (p : View.Piece (Elt F) S1024x2304 .bf16) (hp : p ∈ wList arg1 arg2 X1 X2 k) :
    ∃ (q : ℕ) (off : Fin 2 → ℕ) (hb : ∀ a, off a + S16x128.size a ≤ S1024x2304.size a), q < 18 ∧ off = ![16 * k.val, 128 * q]
      ∧ p = ⟨Rect.unit (s := S1024x2304) off S16x128.size hb, wVal arg1 arg2 X1 X2 k q⟩ := by
  unfold wList at hp
  simp only [List.mem_cons, List.not_mem_nil, or_false] at hp
  rcases hp with h | h | h | h | h | h | h | h | h | h | h | h | h | h | h | h | h | h
  · exact ⟨17, k1_off22 k, k1_off22_inb k, by omega, k1_off22_eq k, h⟩
  · exact ⟨16, k1_off21 k, k1_off21_inb k, by omega, k1_off21_eq k, h⟩
  · exact ⟨15, k1_off19 k, k1_off19_inb k, by omega, k1_off19_eq k, h⟩
  · exact ⟨14, k1_off18 k, k1_off18_inb k, by omega, k1_off18_eq k, h⟩
  · exact ⟨13, k1_off17 k, k1_off17_inb k, by omega, k1_off17_eq k, h⟩
  · exact ⟨12, k1_off16 k, k1_off16_inb k, by omega, k1_off16_eq k, h⟩
  · exact ⟨11, k1_off15 k, k1_off15_inb k, by omega, k1_off15_eq k, h⟩
  · exact ⟨10, k1_off14 k, k1_off14_inb k, by omega, k1_off14_eq k, h⟩
  · exact ⟨9, k1_off13 k, k1_off13_inb k, by omega, k1_off13_eq k, h⟩
  · exact ⟨8, k1_off12 k, k1_off12_inb k, by omega, k1_off12_eq k, h⟩
  · exact ⟨7, k1_off10 k, k1_off10_inb k, by omega, k1_off10_eq k, h⟩
  · exact ⟨6, k1_off9 k, k1_off9_inb k, by omega, k1_off9_eq k, h⟩
  · exact ⟨5, k1_off8 k, k1_off8_inb k, by omega, k1_off8_eq k, h⟩
  · exact ⟨4, k1_off7 k, k1_off7_inb k, by omega, k1_off7_eq k, h⟩
  · exact ⟨3, k1_off6 k, k1_off6_inb k, by omega, k1_off6_eq k, h⟩
  · exact ⟨2, k1_off5 k, k1_off5_inb k, by omega, k1_off5_eq k, h⟩
  · exact ⟨1, k1_off4 k, k1_off4_inb k, by omega, k1_off4_eq k, h⟩
  · exact ⟨0, k1_off3 k, k1_off3_inb k, by omega, k1_off3_eq k, h⟩

end

variable (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
variable (X1 : BufTy.Contents (Elt F) arg1.view.ty) (X2 : BufTy.Contents (Elt F) arg2.view.ty) (k : Fin k1_t1_loop.trips)

theorem tripL1_pieces : tripL_k1_t1 (F := F) .none c none i arg1 harg1 arg2 harg2 arg3 harg3 arg4 harg4 arg5 harg5 arg6 harg6 arg7 harg7 arg8 harg8 arg9 harg9 arg10 harg10 arg11 harg11 X1 X2 k = wList arg1 arg2 X1 X2 k := by
  sl_kernel_rfl

end Cert.KernelIdeal.Whole

end
-- ==== Proof.DecodeValue.lean ====
/- One trip of the second call's first loop over the extended reals, by coordinates: every decoded weight is the value of the
   state of its window, times its trellis's scale. -/
module

public import proofs.«01_k».proof.Proof.TripValue
public import proofs.«01_k».proof.Proof.DecBits
public import proofs.«01_k».proof.Proof.Decode
public import Idealize.ShloMosaic.Lib.BitcastPair
public import Idealize.ShloMosaic.Lib.WholeRead

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

theorem v90_val (r : Fin 8) (l : Fin 128) : trip_k1_t1.sl.v90 (ix2 r l) = BitVec.ofNat 32 (l.val % 32) :=
  (show trip_k1_t1.sl.v90 (ix2 r l) = trip_k1_t1.sl.v90 (ix2 0 l) from rfl).trans ((by decide +kernel : ∀ l : Fin 128, trip_k1_t1.sl.v90 (ix2 0 l) = BitVec.ofNat 32 (l.val % 32)) l)
theorem v1286_val (r : Fin 8) (l : Fin 128) : trip_k1_t1.sl.v1286 (ix2 r l) = BitVec.ofNat 32 (2 * (l.val / 32)) :=
  (show trip_k1_t1.sl.v1286 (ix2 r l) = trip_k1_t1.sl.v1286 (ix2 0 l) from rfl).trans ((by decide +kernel : ∀ l : Fin 128, trip_k1_t1.sl.v1286 (ix2 0 l) = BitVec.ofNat 32 (2 * (l.val / 32))) l)
theorem v1369_val (r : Fin 8) (l : Fin 128) : trip_k1_t1.sl.v1369 (ix2 r l) = BitVec.ofNat 32 (2 * (4 + l.val / 32)) :=
  (show trip_k1_t1.sl.v1369 (ix2 r l) = trip_k1_t1.sl.v1369 (ix2 0 l) from rfl).trans ((by decide +kernel : ∀ l : Fin 128, trip_k1_t1.sl.v1369 (ix2 0 l) = BitVec.ofNat 32 (2 * (4 + l.val / 32))) l)
theorem v132_val (r : Fin 16) (l : Fin 128) : trip_k1_t1.sl.v132 (ix2 r l) = BitVec.ofNat 32 (l.val / 32) :=
  (show trip_k1_t1.sl.v132 (ix2 r l) = trip_k1_t1.sl.v132 (ix2 0 l) from rfl).trans ((by decide +kernel : ∀ l : Fin 128, trip_k1_t1.sl.v132 (ix2 0 l) = BitVec.ofNat 32 (l.val / 32)) l)

theorem stepW_apply (s : IVec S8x128 32) (j : S8x128.Idx) : stepW s j = stepB (s j) := rfl
theorem halfW_apply (s : IVec S8x128 32) (j : S8x128.Idx) : halfW s j = halfB (s j) := rfl
theorem stW_apply (w sh : IVec S8x128 32) (j : S8x128.Idx) : stW w sh j = IntOp.shrui .vector (IntOp.shli .vector (w j) (sh j)) 16#32 := rfl
theorem shl16_apply (s : IVec S8x128 32) (j : S8x128.Idx) : shli s (broadcast S8x128 16#32) j = IntOp.shli .vector (s j) 16#32 := rfl
theorem sum_apply (x y : IVec S8x128 32) (j : S8x128.Idx) :
    (addf (F := Ideal) (bitcastToFloat (F := Ideal) .f32 x) (bitcastToFloat (F := Ideal) .f32 y)) j = Ideal.ofBits FTy.f32 (x j) + Ideal.ofBits FTy.f32 (y j) := rfl
theorem decW_apply' (s : IVec S8x128 32) (j : S8x128.Idx) :
    decW (F := Ideal) s j = Ideal.ofBits FTy.f32 (halfW (stepW s) j) + Ideal.ofBits FTy.f32 (halfW (shli (stepW s) (broadcast S8x128 16#32)) j) := by
  unfold decW
  exact sum_apply _ _ j
theorem decB_def (s : BitVec 32) : decB s = Ideal.ofBits FTy.f32 (halfB (stepB s)) + Ideal.ofBits FTy.f32 (halfB (IntOp.shli .vector (stepB s) 16#32)) := by
  unfold decB
  rfl
theorem decW_apply2 (s : IVec S8x128 32) (j : S8x128.Idx) : decW (F := Ideal) s j = decB (s j) := by
  rw [decB_def]
  refine (decW_apply' s j).trans ?_
  refine congrArg₂ (fun x y : BitVec 32 => Ideal.ofBits FTy.f32 x + Ideal.ofBits FTy.f32 y) ?_ ?_
  · exact (halfW_apply _ _).trans (congrArg halfB (stepW_apply s j))
  · exact (halfW_apply _ _).trans (congrArg halfB ((shl16_apply _ _).trans (congrArg (fun x => IntOp.shli .vector x 16#32) (stepW_apply s j))))
theorem stW_st (w sh : IVec S8x128 32) (j : S8x128.Idx) (a b : BitVec 16) (f : ℕ) (hw : w j = a ++ b) (hs : sh j = BitVec.ofNat 32 (2 * f)) : stW w sh j = stB a b f := by
  rw [stW_apply, hw, hs, stB]

theorem decW_apply (w sh : IVec S8x128 32) (r : Fin 8) (l : Fin 128) (a b : BitVec 16) (f : ℕ) (hw : w (ix2 r l) = a ++ b) (hs : sh (ix2 r l) = BitVec.ofNat 32 (2 * f)) :
    decW (F := Ideal) (stW w sh) (ix2 r l) = decB (stB a b f) :=
  (decW_apply2 _ _).trans (congrArg decB (stW_st w sh _ a b f hw hs))

theorem evW_apply (cur nxt : IVec S8x128 32) (r : Fin 8) (l : Fin 128) (a b c d : BitVec 16) (h : cur (ix2 r l) = a ++ b) (h' : nxt (ix2 r l) = c ++ d) :
    evW cur nxt (ix2 r l) = b ++ d := by
  show IntOp.ori (IntOp.shli .vector (cur (ix2 r l)) 16#32) (IntOp.andi (nxt (ix2 r l)) 65535#32) = _
  rw [h, h', ev_bits]
theorem odW_apply (cur nxt : IVec S8x128 32) (r : Fin 8) (l : Fin 128) (a b c d : BitVec 16) (h : cur (ix2 r l) = a ++ b) (h' : nxt (ix2 r l) = c ++ d) :
    odW cur nxt (ix2 r l) = a ++ c := by
  show IntOp.ori (IntOp.andi (cur (ix2 r l)) 4294901760#32) (IntOp.shrui .vector (nxt (ix2 r l)) 16#32) = _
  rw [h, h', od_bits]

theorem rot_apply (w : IVec S8x128 32) (r : Fin 8) (l : Fin 128) : dynamicRotate 1 (127#32) none w rotates_S8x128_d1 (ix2 r l) = w (ix2 r ⟨(l.val + 1) % 128, by omega⟩) := by
  pointwise []
  refine congrArg (fun l' => w (ix2 r l')) (Fin.ext ?_)
  show (l.val + 128 - 127) % 128 = (l.val + 1) % 128
  omega

theorem nxtW_apply (w : IVec S8x128 32) (r : Fin 8) (l : Fin 128) : nxtW w (ix2 r l) = w (ix2 r ⟨l.val / 32 * 32 + (l.val % 32 + 1) % 32, by omega⟩) := by
  pointwise [nxtW]
  rw [v90_val]
  have hl : l.val < 128 := l.isLt
  by_cases h : l.val % 32 = 31
  · have e : IntOp.cmpi .eq (BitVec.ofNat 32 (l.val % 32)) 31#32 = 1#1 := by rw [h]; decide
    rw [e]
    refine congrArg (fun l' => w (ix2 r l')) (Fin.ext ?_)
    show (l.val + 128 - 31) % 128 = l.val / 32 * 32 + (l.val % 32 + 1) % 32
    omega
  · have e : IntOp.cmpi .eq (BitVec.ofNat 32 (l.val % 32)) 31#32 = 0#1 := by
      have : ∀ m : Fin 32, m.val ≠ 31 → IntOp.cmpi .eq (BitVec.ofNat 32 m.val) 31#32 = 0#1 := by decide +kernel
      exact this ⟨l.val % 32, by omega⟩ h
    rw [e]
    refine congrArg (fun l' => w (ix2 r l')) (Fin.ext ?_)
    show (l.val + 128 - 127) % 128 = l.val / 32 * 32 + (l.val % 32 + 1) % 32
    omega

theorem blkW_apply (ev od sh : IVec S8x128 32) (sc : Vec Ideal S16x128 .bf16) (r : Fin 16) (l : Fin 128) (a b : BitVec 16) (f : ℕ)
    (hs : sh (ix2 ⟨r.val / 2, by omega⟩ l) = BitVec.ofNat 32 (2 * f))
    (he : r.val % 2 = 0 → ev (ix2 ⟨r.val / 2, by omega⟩ l) = a ++ b) (ho : r.val % 2 = 1 → od (ix2 ⟨r.val / 2, by omega⟩ l) = a ++ b) :
    blkW (F := Ideal) ev od sh sc (ix2 r l) = decB (stB a b f) * sc (ix2 r l) := by
  pointwise [blkW]
  refine congrArg (· * sc (ix2 r l)) ?_
  by_cases h : r.val % 2 = 0
  · rw [if_pos h]; exact decW_apply _ _ _ _ a b f (he h) hs
  · rw [if_neg h]; exact decW_apply _ _ _ _ a b f (ho (by omega)) hs

theorem sel4_apply (c0 c1 c2 c3 : Vec Ideal S16x128 .f32) (v : ℕ → EReal) (r : Fin 16) (l : Fin 128) (h0 : c0 (ix2 r l) = v 0) (h1 : c1 (ix2 r l) = v 1)
    (h2 : c2 (ix2 r l) = v 2) (h3 : c3 (ix2 r l) = v 3) : sel4 (F := Ideal) c0 c1 c2 c3 (ix2 r l) = v (l.val / 32) := by
  pointwise [sel4]
  rw [v132_val, h0, h1, h2, h3]
  have hl : l.val < 128 := l.isLt
  have key : ∀ m : Fin 4, Scalar.select (IntOp.cmpi CmpIPredicate.eq (BitVec.ofNat 32 m.val) 3#32) (v 3)
      (Scalar.select (IntOp.cmpi CmpIPredicate.eq (BitVec.ofNat 32 m.val) 2#32) (v 2)
        (Scalar.select (IntOp.cmpi CmpIPredicate.eq (BitVec.ofNat 32 m.val) 1#32) (v 1) (v 0))) = v m.val := by
    intro m
    match m with
    | ⟨0, _⟩ => rfl
    | ⟨1, _⟩ => rfl
    | ⟨2, _⟩ => rfl
    | ⟨3, _⟩ => rfl
  exact key ⟨l.val / 32, by omega⟩

theorem col0_apply (g : Vec Ideal S16x9 .f32) (r : Fin 16) (l : Fin 128) : col0 (F := Ideal) g (ix2 r l) = g (ix2 r 0) := by
  pointwise [col0]
theorem col1_apply (g : Vec Ideal S16x9 .f32) (r : Fin 16) (l : Fin 128) : col1 (F := Ideal) g (ix2 r l) = g (ix2 r 1) := by
  pointwise [col1]
theorem col2_apply (g : Vec Ideal S16x9 .f32) (r : Fin 16) (l : Fin 128) : col2 (F := Ideal) g (ix2 r l) = g (ix2 r 2) := by
  pointwise [col2]
theorem col3_apply (g : Vec Ideal S16x9 .f32) (r : Fin 16) (l : Fin 128) : col3 (F := Ideal) g (ix2 r l) = g (ix2 r 3) := by
  pointwise [col3]
theorem col4_apply (g : Vec Ideal S16x9 .f32) (r : Fin 16) (l : Fin 128) : col4 (F := Ideal) g (ix2 r l) = g (ix2 r 4) := by
  pointwise [col4]
theorem col5_apply (g : Vec Ideal S16x9 .f32) (r : Fin 16) (l : Fin 128) : col5 (F := Ideal) g (ix2 r l) = g (ix2 r 5) := by
  pointwise [col5]
theorem col6_apply (g : Vec Ideal S16x9 .f32) (r : Fin 16) (l : Fin 128) : col6 (F := Ideal) g (ix2 r l) = g (ix2 r 6) := by
  pointwise [col6]
theorem col7_apply (g : Vec Ideal S16x9 .f32) (r : Fin 16) (l : Fin 128) : col7 (F := Ideal) g (ix2 r l) = g (ix2 r 7) := by
  pointwise [col7]
theorem colL_apply (g : Vec Ideal S16x9 .f32) (r : Fin 16) (l : Fin 128) : k1_pay99 (F := Ideal) g (ix2 r l) = g (ix2 r 8) := by
  pointwise [k1_pay99]

section
variable (arg1 : Memref sig .tc .vmem S1024x288 .i16) (arg2 : Memref sig .tc .vmem S1024x9 .f32) (X1 : BufTy.Contents (Elt Ideal) arg1.view.ty) (X2 : BufTy.Contents (Elt Ideal) arg2.view.ty) (k : Fin k1_t1_loop.trips)
variable (x1 : S1024x288.Idx → BitVec 16) (x2 : S1024x9.Idx → EReal)

theorem gsW_apply (h2 : ∀ B j, View.readAt (Elt Ideal) arg2.view B X2 j = x2 (B.idx j)) (r : Fin 16) (t : Fin 9) :
    gsW (F := Ideal) arg2 X2 k (ix2 r t) = at2 x2 (16 * k.val + r.val) t.val := by
  refine (h2 _ _).trans ((eq_at2 x2 _).trans ?_)
  refine congr (congrArg (at2 x2) ?_) ?_
  · show k1_off1 k 0 + 1 * r.val = _
    rw [k1_off1_eq]; show 16 * k.val + 1 * r.val = _; omega
  · show k1_off1 k 1 + 1 * t.val = _
    rw [k1_off1_eq]; show 0 + 1 * t.val = _; omega

theorem curA_apply (h1 : ∀ B j, View.readAt (Elt Ideal) arg1.view B X1 j = x1 (B.idx j)) (r : Fin 8) (l : Fin 128) :
    curA (F := Ideal) arg1 X1 k (ix2 r l) = atB x1 (16 * k.val + 2 * r.val + 1) l.val ++ atB x1 (16 * k.val + 2 * r.val) l.val := by
  unfold curA
  refine (bitcast_16_32 _ _ _).trans ?_
  refine congr (congrArg (fun x y : BitVec 16 => x ++ y) ?_) ?_
  · refine (h1 _ _).trans ((eq_atB x1 _).trans ?_)
    refine congr (congrArg (atB x1) ?_) ?_
    · show k1_off2 k 0 + 1 * (2 * r.val + 1) = _
      rw [k1_off2_eq]; show 16 * k.val + 1 * (2 * r.val + 1) = _; omega
    · show k1_off2 k 1 + 1 * l.val = _
      rw [k1_off2_eq]; show 0 + 1 * l.val = _; omega
  · refine (h1 _ _).trans ((eq_atB x1 _).trans ?_)
    refine congr (congrArg (atB x1) ?_) ?_
    · show k1_off2 k 0 + 1 * (2 * r.val) = _
      rw [k1_off2_eq]; show 16 * k.val + 1 * (2 * r.val) = _; omega
    · show k1_off2 k 1 + 1 * l.val = _
      rw [k1_off2_eq]; show 0 + 1 * l.val = _; omega

theorem curB_apply (h1 : ∀ B j, View.readAt (Elt Ideal) arg1.view B X1 j = x1 (B.idx j)) (r : Fin 8) (l : Fin 128) :
    curB (F := Ideal) arg1 X1 k (ix2 r l) = atB x1 (16 * k.val + 2 * r.val + 1) (128 + l.val) ++ atB x1 (16 * k.val + 2 * r.val) (128 + l.val) := by
  unfold curB
  refine (bitcast_16_32 _ _ _).trans ?_
  refine congr (congrArg (fun x y : BitVec 16 => x ++ y) ?_) ?_
  · refine (h1 _ _).trans ((eq_atB x1 _).trans ?_)
    refine congr (congrArg (atB x1) ?_) ?_
    · show k1_off11 k 0 + 1 * (2 * r.val + 1) = _
      rw [k1_off11_eq]; show 16 * k.val + 1 * (2 * r.val + 1) = _; omega
    · show k1_off11 k 1 + 1 * l.val = _
      rw [k1_off11_eq]; show 128 + 1 * l.val = _; omega
  · refine (h1 _ _).trans ((eq_atB x1 _).trans ?_)
    refine congr (congrArg (atB x1) ?_) ?_
    · show k1_off11 k 0 + 1 * (2 * r.val) = _
      rw [k1_off11_eq]; show 16 * k.val + 1 * (2 * r.val) = _; omega
    · show k1_off11 k 1 + 1 * l.val = _
      rw [k1_off11_eq]; show 128 + 1 * l.val = _; omega

theorem curL0_apply (h1 : ∀ B j, View.readAt (Elt Ideal) arg1.view B X1 j = x1 (B.idx j)) (r : Fin 8) (l : Fin 32) :
    curL0 (F := Ideal) arg1 X1 k (ix2 r l) = atB x1 (16 * k.val + 2 * r.val + 1) (256 + l.val) ++ atB x1 (16 * k.val + 2 * r.val) (256 + l.val) := by
  unfold curL0
  refine (bitcast_16_32 _ _ _).trans ?_
  refine congr (congrArg (fun x y : BitVec 16 => x ++ y) ?_) ?_
  · refine (h1 _ _).trans ((eq_atB x1 _).trans ?_)
    refine congr (congrArg (atB x1) ?_) ?_
    · show k1_off20 k 0 + 1 * (2 * r.val + 1) = _
      rw [k1_off20_eq]; show 16 * k.val + 1 * (2 * r.val + 1) = _; omega
    · show k1_off20 k 1 + 1 * l.val = _
      rw [k1_off20_eq]; show 256 + 1 * l.val = _; omega
  · refine (h1 _ _).trans ((eq_atB x1 _).trans ?_)
    refine congr (congrArg (atB x1) ?_) ?_
    · show k1_off20 k 0 + 1 * (2 * r.val) = _
      rw [k1_off20_eq]; show 16 * k.val + 1 * (2 * r.val) = _; omega
    · show k1_off20 k 1 + 1 * l.val = _
      rw [k1_off20_eq]; show 256 + 1 * l.val = _; omega

theorem curL_apply (h1 : ∀ B j, View.readAt (Elt Ideal) arg1.view B X1 j = x1 (B.idx j)) (r : Fin 8) (l : Fin 128) :
    curL (F := Ideal) arg1 X1 k (ix2 r l) = atB x1 (16 * k.val + 2 * r.val + 1) (256 + l.val % 32) ++ atB x1 (16 * k.val + 2 * r.val) (256 + l.val % 32) := by
  have hl : l.val < 128 := l.isLt
  have e : curL (F := Ideal) arg1 X1 k (ix2 r l) = curL0 (F := Ideal) arg1 X1 k (ix2 r ⟨l.val % 32, by omega⟩) := by
    pointwise [curL]
    split
    · exact congrArg (fun l' => curL0 (F := Ideal) arg1 X1 k (ix2 r l')) (Fin.ext (by show l.val = l.val % 32; omega))
    · split
      · exact congrArg (fun l' => curL0 (F := Ideal) arg1 X1 k (ix2 r l')) (Fin.ext (by show l.val - 32 = l.val % 32; omega))
      · split
        · exact congrArg (fun l' => curL0 (F := Ideal) arg1 X1 k (ix2 r l')) (Fin.ext (by show l.val - 32 - 32 = l.val % 32; omega))
        · exact congrArg (fun l' => curL0 (F := Ideal) arg1 X1 k (ix2 r l')) (Fin.ext (by show l.val - 32 - 32 - 32 = l.val % 32; omega))
  exact e.trans (curL0_apply arg1 X1 k x1 h1 r ⟨l.val % 32, by omega⟩)

/-- The trellis, the field and the word of a column of the decoded weights. -/
def colT (q l : ℕ) : ℕ := if q < 16 then q / 8 * 4 + l / 32 else 8
def colF (q l : ℕ) : ℕ := if q < 16 then q % 8 else 4 * (q - 16) + l / 32

/-- The decoded weight of a row at column `128 q + l`. -/
def wEl (x1 : S1024x288.Idx → BitVec 16) (x2 : S1024x9.Idx → EReal) (row q l : ℕ) : EReal :=
  decB (stB (atB x1 row (colT q l * 32 + l % 32)) (atB x1 row (colT q l * 32 + (l % 32 + 1) % 32)) (colF q l)) * at2 x2 row (colT q l)

theorem wVal_apply (h1 : ∀ B j, View.readAt (Elt Ideal) arg1.view B X1 j = x1 (B.idx j)) (h2 : ∀ B j, View.readAt (Elt Ideal) arg2.view B X2 j = x2 (B.idx j))
    (q : ℕ) (hq : q < 18) (r : Fin 16) (l : Fin 128) : wVal (F := Ideal) arg1 arg2 X1 X2 k q (ix2 r l) = wEl x1 x2 (16 * k.val + r.val) q l.val := by
  have hl : l.val < 128 := l.isLt
  have hr : r.val < 16 := r.isLt
  unfold wVal
  have fin : ∀ (o : ℕ) (cur nxt sh : IVec S8x128 32) (sc : Vec Ideal S16x128 .bf16) (n n' : ℕ),
      (∀ r : Fin 8, cur (ix2 r l) = atB x1 (16 * k.val + 2 * r.val + 1) n ++ atB x1 (16 * k.val + 2 * r.val) n) →
      (∀ r : Fin 8, nxt (ix2 r l) = atB x1 (16 * k.val + 2 * r.val + 1) n' ++ atB x1 (16 * k.val + 2 * r.val) n') →
      (∀ r : Fin 8, sh (ix2 r l) = BitVec.ofNat 32 (2 * colF q l.val)) → n = colT q l.val * 32 + l.val % 32 → n' = colT q l.val * 32 + (l.val % 32 + 1) % 32 →
      sc (ix2 r l) = at2 x2 (16 * k.val + r.val) (colT q l.val) →
      blkW (F := Ideal) (evW cur nxt) (odW cur nxt) sh sc (ix2 r l) = wEl x1 x2 (16 * k.val + r.val) q l.val := by
    intro o cur nxt sh sc n n' hc hn hs en en' hsc
    subst en en'
    refine (blkW_apply _ _ _ _ r l (atB x1 (16 * k.val + r.val) (colT q l.val * 32 + l.val % 32)) (atB x1 (16 * k.val + r.val) (colT q l.val * 32 + (l.val % 32 + 1) % 32)) (colF q l.val) (hs _) ?_ ?_).trans ?_
    · intro h
      have e := evW_apply cur nxt ⟨r.val / 2, by omega⟩ l _ _ _ _ (hc _) (hn _)
      rw [e]
      simp only [show 2 * (r.val / 2) = r.val by omega]
    · intro h
      have e := odW_apply cur nxt ⟨r.val / 2, by omega⟩ l _ _ _ _ (hc _) (hn _)
      rw [e]
      simp only [show 16 * k.val + 2 * (r.val / 2) + 1 = 16 * k.val + r.val by omega]
    · rw [hsc]; rfl
  split
  · rename_i hq8
    have eT : colT q l.val = l.val / 32 := by unfold colT; rw [if_pos (by omega)]; omega
    have eF : colF q l.val = q % 8 := by unfold colF; rw [if_pos (by omega)]
    refine fin 0 _ _ _ _ l.val (l.val / 32 * 32 + (l.val % 32 + 1) % 32) (fun r => curA_apply arg1 X1 k x1 h1 r l) (fun r => ?_) (fun r => ?_) (by rw [eT]; omega) (by rw [eT]) ?_
    · exact (nxtW_apply _ _ _).trans (curA_apply arg1 X1 k x1 h1 r _)
    · rw [eF]; rfl
    · rw [scA_eq, eT]
      exact sel4_apply _ _ _ _ (fun t => at2 x2 (16 * k.val + r.val) t) r l ((col0_apply _ r l).trans (gsW_apply arg2 X2 k x2 h2 r 0)) ((col1_apply _ r l).trans (gsW_apply arg2 X2 k x2 h2 r 1))
        ((col2_apply _ r l).trans (gsW_apply arg2 X2 k x2 h2 r 2)) ((col3_apply _ r l).trans (gsW_apply arg2 X2 k x2 h2 r 3))
  · split
    · rename_i hq8 hq16
      have eT : colT q l.val = 4 + l.val / 32 := by unfold colT; rw [if_pos (by omega)]; omega
      have eF : colF q l.val = q % 8 := by unfold colF; rw [if_pos (by omega)]
      refine fin 0 _ _ _ _ (128 + l.val) (128 + (l.val / 32 * 32 + (l.val % 32 + 1) % 32)) (fun r => curB_apply arg1 X1 k x1 h1 r l) (fun r => ?_) (fun r => ?_) (by rw [eT]; omega) (by rw [eT]; omega) ?_
      · exact (nxtW_apply _ _ _).trans (curB_apply arg1 X1 k x1 h1 r _)
      · rw [eF]; rfl
      · rw [scB_eq, eT]
        exact sel4_apply _ _ _ _ (fun t => at2 x2 (16 * k.val + r.val) (4 + t)) r l ((col4_apply _ r l).trans (gsW_apply arg2 X2 k x2 h2 r 4)) ((col5_apply _ r l).trans (gsW_apply arg2 X2 k x2 h2 r 5))
          ((col6_apply _ r l).trans (gsW_apply arg2 X2 k x2 h2 r 6)) ((col7_apply _ r l).trans (gsW_apply arg2 X2 k x2 h2 r 7))
    · rename_i hq8 hq16
      have eT : colT q l.val = 8 := by unfold colT; rw [if_neg (by omega)]
      have eF : colF q l.val = 4 * (q - 16) + l.val / 32 := by unfold colF; rw [if_neg (by omega)]
      refine fin 0 _ _ _ _ (256 + l.val % 32) (256 + (l.val + 1) % 128 % 32) (fun r => curL_apply arg1 X1 k x1 h1 r l) (fun r => ?_) (fun r => ?_) (by rw [eT]) (by rw [eT]; omega) ?_
      · exact (rot_apply _ _ _).trans (curL_apply arg1 X1 k x1 h1 r _)
      · rw [eF]
        split
        · rename_i e; subst e; exact (v1286_val r l).trans (by rw [show 4 * (16 - 16) + l.val / 32 = l.val / 32 by omega])
        · rename_i e; have : q = 17 := by omega
          subst this; exact v1369_val r l
      · rw [eT]; exact (colL_apply _ r l).trans (gsW_apply arg2 X2 k x2 h2 r 8)

end

end Cert.KernelIdeal.Whole

end
-- ==== Proof.WtValue.lean ====
/- The decoded weights of one step of the second call, by coordinates. -/
module

public import proofs.«01_k».proof.Proof.DecodeValue
public import proofs.«01_k».proof.Proof.OutValue
public import proofs.«01_k».proof.Proof.DecBits
public import proofs.«01_k».proof.Proof.Decode
public import Idealize.ShloMosaic.Lib.BitcastPair
public import Idealize.ShloMosaic.Lib.WholeRead

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

variable (c : Dev nD) (i : grid1.Coords) (arg1 : Memref sig .tc .vmem S1024x288 .i16) (harg1 : arg1.IsWhole) (arg2 : Memref sig .tc .vmem S1024x9 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S1536x2304 .bf16) (harg5 : arg5.IsWhole) (arg6 : Memref sig .tc .vmem S1536x1024 .bf16) (harg6 : arg6.IsWhole) (arg7 : Memref sig .tc .vmem S1024x2304 .bf16) (harg7 : arg7.IsWhole) (arg8 : Memref sig .tc .vmem S1024x128 .f32) (harg8 : arg8.IsWhole) (arg9 : Memref sig .tc .vmem S512x256 .f32) (harg9 : arg9.IsWhole) (arg10 : Memref sig .tc .vmem S1056x128 .f32) (harg10 : arg10.IsWhole) (arg11 : Memref sig .tc .vmem S1152x128 .f32) (harg11 : arg11.IsWhole)
variable (X1 : BufTy.Contents (Elt Ideal) arg1.view.ty) (X2 : BufTy.Contents (Elt Ideal) arg2.view.ty)

theorem mem_pb1 : ∀ (n : ℕ) (hn : n ≤ k1_t1_loop.trips) (p : View.Piece (Elt Ideal) S1024x2304 .bf16), p ∈ pb_k1_t1 (F := Ideal) .none c none i arg1 harg1 arg2 harg2 arg3 harg3 arg4 harg4 arg5 harg5 arg6 harg6 arg7 harg7 arg8 harg8 arg9 harg9 arg10 harg10 arg11 harg11 X1 X2 n →
    ∃ k : Fin k1_t1_loop.trips, p ∈ wList (F := Ideal) arg1 arg2 X1 X2 k
  | 0, _, p, h => by
    have e : pb_k1_t1 (F := Ideal) .none c none i arg1 harg1 arg2 harg2 arg3 harg3 arg4 harg4 arg5 harg5 arg6 harg6 arg7 harg7 arg8 harg8 arg9 harg9 arg10 harg10 arg11 harg11 X1 X2 0 = [] := rfl
    rw [e] at h
    exact absurd h (by simp)
  | n + 1, hn, p, h => by
    have e := pb_k1_t1_succ (F := Ideal) .none c none i arg1 harg1 arg2 harg2 arg3 harg3 arg4 harg4 arg5 harg5 arg6 harg6 arg7 harg7 arg8 harg8 arg9 harg9 arg10 harg10 arg11 harg11 X1 X2 ⟨n, by omega⟩
    rw [e] at h
    rcases List.mem_append.mp h with h | h
    · exact ⟨⟨n, by omega⟩, by rw [tripL1_pieces] at h; exact h⟩
    · exact mem_pb1 n (by omega) p h

/-- The decoded weight at a row and a column of the kernel's column order. -/
def Wt (x1 : S1024x288.Idx → BitVec 16) (x2 : S1024x9.Idx → EReal) (row col : ℕ) : EReal := wEl x1 x2 row (col / 128) (col % 128)

theorem wt_apply (x0 : Vec Ideal S1024x288 .i16) (x1 : Vec Ideal S1024x9 .f32) (y : S1024x2304.Idx) :
    View.canon (wtL (F := Ideal) c i arg1 harg1 arg2 harg2 arg3 harg3 arg4 harg4 arg5 harg5 arg6 harg6 arg7 harg7 arg8 harg8 arg9 harg9 arg10 harg10 arg11 harg11 x0 x1) y = Wt x0 x1 (y 0).val (y 1).val := by
  refine View.canon_apply_of_pieces (S := S1024x2304) (e := .bf16) (fun y => Wt x0 x1 (y 0).val (y 1).val) _ (fun p hp => ?_) y (wtL_cover (F := Ideal) c i arg1 harg1 arg2 harg2 arg3 harg3 arg4 harg4 arg5 harg5 arg6 harg6 arg7 harg7 arg8 harg8 arg9 harg9 arg10 harg10 arg11 harg11 x0 x1 y)
  unfold wtL at hp
  obtain ⟨k, hk⟩ := mem_pb1 c i arg1 harg1 arg2 harg2 arg3 harg3 arg4 harg4 arg5 harg5 arg6 harg6 arg7 harg7 arg8 harg8 arg9 harg9 arg10 harg10 arg11 harg11 _ _ _ (Nat.le_refl _) p hp
  obtain ⟨q, off, hb, hq, rfl, rfl⟩ := mem_wList _ _ _ _ _ p hk
  intro (x : S16x128.Idx)
  have hx1 : (x 1).val < 128 := (x 1).isLt
  have ex : x = ix2 (x 0) (x 1) := by
    funext a
    match a with
    | ⟨0, _⟩ => rfl
    | ⟨1, _⟩ => rfl
  show wVal (F := Ideal) arg1 arg2 _ _ k q x = Wt x0 x1 (16 * k.val + 1 * (x 0).val) (128 * q + 1 * (x 1).val)
  rw [ex]
  refine (wVal_apply arg1 arg2 _ _ k x0 x1 (fun B j => Memref.IsWhole.readAt_unread _ _ _ _) (fun B j => Memref.IsWhole.readAt_unread _ _ _ _) q hq (x 0) (x 1)).trans ?_
  unfold Wt
  show wEl x0 x1 (16 * k.val + (x 0).val) q (x 1).val = wEl x0 x1 (16 * k.val + 1 * (x 0).val) ((128 * q + 1 * (x 1).val) / 128) ((128 * q + 1 * (x 1).val) % 128)
  rw [show (128 * q + 1 * (x 1).val) / 128 = q by omega, show (128 * q + 1 * (x 1).val) % 128 = (x 1).val by omega, Nat.one_mul]

end Cert.KernelIdeal.Whole

end
-- ==== Proof.RsValue.lean ====
/- The value of the scratch buffer of row scales: every output row keeps its scale in all the lanes of its row. -/
module

public import proofs.«01_k».proof.Proof.TripValue
public import proofs.«01_k».proof.Proof.OutValue
public import Idealize.ShloMosaic.Lib.BitcastPair
public import Idealize.ShloMosaic.Lib.WholeRead

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

/-- The pieces as stored: the scale of output row `128 g + r` is in lane `r` of row `g` of its block. -/
theorem rsL_cover (c : Dev nD) (arg3 : Memref sig .tc .vmem S8x128 .f32) (harg3 : arg3.IsWhole) (x2 : Vec Ideal S8x128 .f32) (y : S1024x128.Idx) :
    ∃ p ∈ kernelRun1.sl.HS1_8 (F := Ideal) c arg3 harg3 x2, y ∈ p.1.set :=
  View.cover_of_tiledL (kernelRun1.sl.HS1_8 (F := Ideal) c arg3 harg3 x2) S128x128.size (by sl_kernel_rfl) y

/-- One stored piece: its row scales, turned to a column and repeated along the lanes. -/
def rsP (v : FVec Ideal S1x128 .f32) : FVec Ideal S128x128 .f32 := k1_pay1326 v

theorem rsP_apply (v : FVec Ideal S1x128 .f32) (r l : Fin 128) : rsP v (ix2 r l) = v (ix2 0 r) := by
  unfold rsP
  pointwise [k1_pay1326]

/-- The row of scales number `g`. -/
def rsR (arg3 : Memref sig .tc .vmem S8x128 .f32) (harg3 : arg3.IsWhole) (x2 : Vec Ideal S8x128 .f32) (g : Fin 8) : FVec Ideal S1x128 .f32 :=
  View.readAt (Elt Ideal) arg3.view (Rect.unit ![g.val, 0] S1x128.size (by intro a; revert a g; decide) : Rect S8x128).toLoadRect (harg3.unread x2)

def rsPc (arg3 : Memref sig .tc .vmem S8x128 .f32) (harg3 : arg3.IsWhole) (x2 : Vec Ideal S8x128 .f32) (g : Fin 8) : View.Piece (Elt Ideal) S1024x128 .f32 :=
  ⟨Rect.unit ![128 * g.val, 0] S128x128.size (by intro a; revert a g; decide), rsP (rsR arg3 harg3 x2 g)⟩

theorem rsL_eq (c : Dev nD) (arg3 : Memref sig .tc .vmem S8x128 .f32) (harg3 : arg3.IsWhole) (x2 : Vec Ideal S8x128 .f32) :
    kernelRun1.sl.HS1_8 (F := Ideal) c arg3 harg3 x2 = (List.finRange 8).reverse.map (rsPc arg3 harg3 x2) := by sl_kernel_rfl

/-- The buffer, by coordinates. -/
theorem rs_apply (c : Dev nD) (arg3 : Memref sig .tc .vmem S8x128 .f32) (harg3 : arg3.IsWhole) (x2 : Vec Ideal S8x128 .f32) (y : S1024x128.Idx) :
    View.canon (kernelRun1.sl.HS1_8 (F := Ideal) c arg3 harg3 x2) y = at2 x2 ((y 0).val / 128) ((y 0).val % 128) := by
  refine View.canon_apply_of_pieces (S := S1024x128) (e := .f32) (fun y => at2 x2 ((y 0).val / 128) ((y 0).val % 128)) _ (fun p hp => ?_) y (rsL_cover c arg3 harg3 x2 y)
  rw [rsL_eq] at hp
  obtain ⟨g, -, rfl⟩ := List.mem_map.1 hp
  intro (x : S128x128.Idx)
  have hx : (x 0).val < 128 := (x 0).isLt
  have ex : x = ix2 (x 0) (x 1) := by
    funext a
    match a with
    | ⟨0, _⟩ => rfl
    | ⟨1, _⟩ => rfl
  show rsP (rsR arg3 harg3 x2 g) x = at2 x2 ((128 * g.val + 1 * (x 0).val) / 128) ((128 * g.val + 1 * (x 0).val) % 128)
  refine (congrArg (rsP (rsR arg3 harg3 x2 g)) ex).trans ((rsP_apply _ _ _).trans ?_)
  rw [show (128 * g.val + 1 * (x 0).val) / 128 = g.val by omega, show (128 * g.val + 1 * (x 0).val) % 128 = (x 0).val by omega]
  unfold rsR
  refine (Memref.IsWhole.readAt_unread harg3 _ _ _).trans ((eq_at2 (n := 8) (m := 128) x2 _).trans ?_)
  refine congrArg₂ (at2 x2) ?_ ?_
  · show g.val + 1 * 0 = g.val
    omega
  · show 0 + 1 * (x 0).val = (x 0).val
    omega

end Cert.KernelIdeal.Whole

end
-- ==== Proof.RotPieces.lean ====
/- The first call's stored pieces in closed form: every trellis of 256 columns is rotated by one rule, and the permuted copy is made of
   slices of the rotated trellises put in the kernel's column order. -/
module

public import proofs.«01_k».proof.Proof.Region0

@[expose] public section

set_option maxRecDepth 16384

noncomputable section

namespace Cert.KernelIdeal.Whole

open Cert.KernelIdeal.Gen

open Idealize.ShloMosaic Idealize.ShloMosaic.TcCoe Idealize.ShloMosaic.Tactic

variable {F : FTy → Type} [FloatOps F]

/-- The rotation's signs, as read back from their buffer. -/
abbrev hadM (c : Dev nD) (arg5 : Memref sig .tc .vmem S256x256 .bf16) : FVec F S256x256 .bf16 := kernelRun0_A.sl.v133 (F := F) c arg5
/-- The permutation, as read back from its buffer. -/
abbrev permM (c : Dev nD) (arg6 : Memref sig .tc .vmem S256x256 .bf16) : FVec F S256x256 .bf16 := kernelRun0_A.sl.v147 (F := F) c arg6

/-- Trellis `t` of the tokens. -/
def xT (arg1 : Memref sig .tc .vmem S256x2304 .bf16) (harg1 : arg1.IsWhole) (x0 : Vec F S256x2304 .bf16) (t : Fin 9) : FVec F S256x256 .bf16 :=
  View.readAt (Elt F) arg1.view (Rect.unit ![0, 256 * t.val] S256x256.size (by intro a; revert a t; decide) : Rect S256x2304).toLoadRect (harg1.unread x0)
/-- Trellis `t` of the signs `su`. -/
def uT (arg2 : Memref sig .tc .vmem S1x2304 .f32) (harg2 : arg2.IsWhole) (x1 : Vec F S1x2304 .f32) (t : Fin 9) : FVec F S1x256 .f32 :=
  View.readAt (Elt F) arg2.view (Rect.unit ![0, 256 * t.val] S1x256.size (by intro a; revert a t; decide) : Rect S1x2304).toLoadRect (harg2.unread x1)
/-- A trellis rotated. -/
def rot (X : FVec F S256x256 .bf16) (U : FVec F S1x256 .f32) (H : FVec F S256x256 .bf16) : FVec F S256x256 .bf16 := k0_pay33 X U H H H
/-- A rotated trellis permuted. -/
def prm (R : FVec F S256x256 .bf16) (P : FVec F S256x256 .bf16) : FVec F S256x256 .f32 := k0_pay32 R P

def xrT (c : Dev nD) (arg1 : Memref sig .tc .vmem S256x2304 .bf16) (harg1 : arg1.IsWhole) (arg2 : Memref sig .tc .vmem S1x2304 .f32) (harg2 : arg2.IsWhole) (arg5 : Memref sig .tc .vmem S256x256 .bf16)
    (x0 : Vec F S256x2304 .bf16) (x1 : Vec F S1x2304 .f32) (t : Fin 9) : FVec F S256x256 .bf16 := rot (xT arg1 harg1 x0 t) (uT arg2 harg2 x1 t) (hadM c arg5)
def byT (c : Dev nD) (arg1 : Memref sig .tc .vmem S256x2304 .bf16) (harg1 : arg1.IsWhole) (arg2 : Memref sig .tc .vmem S1x2304 .f32) (harg2 : arg2.IsWhole) (arg5 arg6 : Memref sig .tc .vmem S256x256 .bf16)
    (x0 : Vec F S256x2304 .bf16) (x1 : Vec F S1x2304 .f32) (t : Fin 9) : FVec F S256x256 .f32 := prm (xrT c arg1 harg1 arg2 harg2 arg5 x0 x1 t) (permM c arg6)
/-- Column block `q` of the permuted copy: lanes `32 f …` of four trellises, side by side. -/
def xpQ (c : Dev nD) (arg1 : Memref sig .tc .vmem S256x2304 .bf16) (harg1 : arg1.IsWhole) (arg2 : Memref sig .tc .vmem S1x2304 .f32) (harg2 : arg2.IsWhole) (arg5 arg6 : Memref sig .tc .vmem S256x256 .bf16)
    (x0 : Vec F S256x2304 .bf16) (x1 : Vec F S1x2304 .f32) (q : Fin 16) : FVec F S256x128 .bf16 :=
  truncf .bf16 (concatenate S256x128 1 ((List.range 4).map fun t => (⟨S256x32, extractStridedSlice S256x32 ![0, 32 * (q.val % 8)] (byT c arg1 harg1 arg2 harg2 arg5 arg6 x0 x1 ⟨(4 * (q.val / 8) + t) % 9, by omega⟩) (by revert q; decide)⟩ : (s : Shape) × (s.Idx → F .f32)))
    concatenates_S256x32_S256x32_S256x32_S256x32_S256x128_d1) bitsLt_bf16_f32

def xrPc (c : Dev nD) (arg1 : Memref sig .tc .vmem S256x2304 .bf16) (harg1 : arg1.IsWhole) (arg2 : Memref sig .tc .vmem S1x2304 .f32) (harg2 : arg2.IsWhole) (arg5 : Memref sig .tc .vmem S256x256 .bf16)
    (x0 : Vec F S256x2304 .bf16) (x1 : Vec F S1x2304 .f32) (t : Fin 9) : View.Piece (Elt F) S256x2304 .bf16 :=
  ⟨Rect.unit ![0, 256 * t.val] S256x256.size (by intro a; revert a t; decide), xrT c arg1 harg1 arg2 harg2 arg5 x0 x1 t⟩
def xpPc (c : Dev nD) (arg1 : Memref sig .tc .vmem S256x2304 .bf16) (harg1 : arg1.IsWhole) (arg2 : Memref sig .tc .vmem S1x2304 .f32) (harg2 : arg2.IsWhole) (arg5 arg6 : Memref sig .tc .vmem S256x256 .bf16)
    (x0 : Vec F S256x2304 .bf16) (x1 : Vec F S1x2304 .f32) (q : Fin 16) : View.Piece (Elt F) S256x2304 .bf16 :=
  ⟨Rect.unit ![0, 128 * q.val] S256x128.size (by intro a; revert a q; decide), xpQ c arg1 harg1 arg2 harg2 arg5 arg6 x0 x1 q⟩
/-- The last block of the permuted copy: the ninth trellis. -/
def xpLast (c : Dev nD) (arg1 : Memref sig .tc .vmem S256x2304 .bf16) (harg1 : arg1.IsWhole) (arg2 : Memref sig .tc .vmem S1x2304 .f32) (harg2 : arg2.IsWhole) (arg5 arg6 : Memref sig .tc .vmem S256x256 .bf16)
    (x0 : Vec F S256x2304 .bf16) (x1 : Vec F S1x2304 .f32) : View.Piece (Elt F) S256x2304 .bf16 :=
  ⟨Rect.unit ![0, 2048] S256x256.size (by intro a; revert a; decide), truncf .bf16 (byT c arg1 harg1 arg2 harg2 arg5 arg6 x0 x1 8) bitsLt_bf16_f32⟩

theorem xrL_eq (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole) (x0 : Vec F S256x2304 .bf16) (x1 : Vec F S1x2304 .f32) :
    (kernelRun0_A (F := F) c i arg1 harg1 arg2 harg2 arg3 harg3 arg4 harg4 arg5 harg5 arg6 harg6 x0 x1).1 = (List.finRange 9).reverse.map (xrPc c arg1 harg1 arg2 harg2 arg5 x0 x1) := by sl_kernel_rfl
theorem xpL_eq (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole) (x0 : Vec F S256x2304 .bf16) (x1 : Vec F S1x2304 .f32) :
    (kernelRun0_A (F := F) c i arg1 harg1 arg2 harg2 arg3 harg3 arg4 harg4 arg5 harg5 arg6 harg6 x0 x1).2.1
      = xpLast c arg1 harg1 arg2 harg2 arg5 arg6 x0 x1 :: (List.finRange 16).reverse.map (xpPc c arg1 harg1 arg2 harg2 arg5 arg6 x0 x1) := by sl_kernel_rfl

end Cert.KernelIdeal.Whole

end
-- ==== Proof.Had.lean ====
/- The Hadamard butterfly of 128 finite numbers is the product with the matrix of signs. -/
module

public import Idealize.ShloMosaic.Lib.Pipeline.Value
public import Idealize.ShloMosaic.Lib.Pointwise
public import proofs.«01_k».proof.Proof.Spec

@[expose] public section

noncomputable section

namespace Cert.Val

open Idealize.ShloMosaic

/-- The sign of the Hadamard matrix on `s` bits: minus one to the number of common bits. -/
def sgb : ℕ → ℕ → ℕ → ℤ
  | 0, _, _ => 1
  | s + 1, j, i => (if j.testBit s && i.testBit s then -1 else 1) * sgb s j i

/-- The butterfly of real numbers. -/
def bfR (v : ℕ → ℝ) : ℕ → ℕ → ℝ
  | 0, i => v i
  | s + 1, i => cond (i.testBit s) (bfR v s (i - 2 ^ s) - bfR v s i) (bfR v s i + bfR v s (i + 2 ^ s))

theorem bfE_coe (v : ℕ → ℝ) : ∀ s i, bfE (fun j => (v j : EReal)) s i = (bfR v s i : EReal)
  | 0, i => rfl
  | s + 1, i => by
    show cond (i.testBit s) (bfE (fun j => (v j : EReal)) s (i - 2 ^ s) - bfE (fun j => (v j : EReal)) s i)
      (bfE (fun j => (v j : EReal)) s i + bfE (fun j => (v j : EReal)) s (i + 2 ^ s))
      = ((cond (i.testBit s) (bfR v s (i - 2 ^ s) - bfR v s i) (bfR v s i + bfR v s (i + 2 ^ s)) : ℝ) : EReal)
    rw [bfE_coe v s, bfE_coe v s, bfE_coe v s]
    cases i.testBit s
    · exact (EReal.coe_add _ _).symm
    · exact (EReal.coe_sub _ _).symm

theorem sgb_succ (s j i : ℕ) : sgb (s + 1) j i = (if j.testBit s && i.testBit s then -1 else 1) * sgb s j i := rfl

theorem sgb_congr : ∀ (s : ℕ) (j i j' i' : ℕ), (∀ b < s, j.testBit b = j'.testBit b) → (∀ b < s, i.testBit b = i'.testBit b) → sgb s j i = sgb s j' i'
  | 0, _, _, _, _, _, _ => rfl
  | s + 1, j, i, j', i', hj, hi => by
    rw [sgb_succ, sgb_succ, hj s (by omega), hi s (by omega), sgb_congr s j i j' i' (fun b hb => hj b (by omega)) (fun b hb => hi b (by omega))]

theorem testBit_iff (i s : ℕ) : i.testBit s = decide (i / 2 ^ s % 2 = 1) := Nat.testBit_eq_decide_div_mod_eq

theorem bfR_eq (v : ℕ → ℝ) : ∀ s i, bfR v s i = ∑ j ∈ Finset.range (2 ^ s), (sgb s j i : ℝ) * v (i / 2 ^ s * 2 ^ s + j)
  | 0, i => by simp [bfR, sgb]
  | s + 1, i => by
    have hp : 0 < 2 ^ s := Nat.two_pow_pos s
    have e2 : 2 ^ (s + 1) = 2 ^ s + 2 ^ s := by rw [pow_succ]; omega
    have hdd : i / 2 ^ (s + 1) = i / 2 ^ s / 2 := by rw [pow_succ, Nat.div_div_eq_div_mul]
    rw [e2, Finset.sum_range_add, ← e2, hdd]
    have low : ∀ j ∈ Finset.range (2 ^ s), ∀ i' : ℕ, (∀ b < s, i'.testBit b = i.testBit b) → sgb (s + 1) j i = sgb s j i' := by
      intro j hj i' hi'
      have hj' : j < 2 ^ s := Finset.mem_range.mp hj
      rw [sgb_succ, Nat.testBit_lt_two_pow hj']
      simp only [Bool.false_and, Bool.false_eq_true, if_false, one_mul]
      exact sgb_congr s _ _ _ _ (fun _ _ => rfl) (fun b hb => (hi' b hb).symm)
    have high : ∀ j ∈ Finset.range (2 ^ s), ∀ i' : ℕ, (∀ b < s, i'.testBit b = i.testBit b) → sgb (s + 1) (2 ^ s + j) i = (if i.testBit s then -1 else 1) * sgb s j i' := by
      intro j hj i' hi'
      have hj' : j < 2 ^ s := Finset.mem_range.mp hj
      rw [sgb_succ, Nat.testBit_two_pow_add_eq, Nat.testBit_lt_two_pow hj']
      simp only [Bool.not_false, Bool.true_and]
      rw [sgb_congr s (2 ^ s + j) i j i' (fun b hb => Nat.testBit_two_pow_add_gt hb j) (fun b hb => (hi' b hb).symm)]
    cases hb : i.testBit s with
    | false =>
      have hm : i / 2 ^ s % 2 = 0 := by
        rw [testBit_iff, decide_eq_false_iff_not] at hb; omega
      have hd : i / 2 ^ s / 2 * 2 ^ (s + 1) = i / 2 ^ s * 2 ^ s := by
        rw [pow_succ, Nat.mul_comm (2 ^ s) 2, ← Nat.mul_assoc]; congr 1; omega
      have hd' : (i + 2 ^ s) / 2 ^ s * 2 ^ s = i / 2 ^ s * 2 ^ s + 2 ^ s := by
        rw [Nat.add_div_right _ hp, Nat.succ_mul]
      have hbits : ∀ b < s, (i + 2 ^ s).testBit b = i.testBit b := fun b hb => by
        rw [Nat.add_comm]; exact Nat.testBit_two_pow_add_gt hb i
      show cond (i.testBit s) _ _ = _
      rw [hb, cond_false, bfR_eq v s i, bfR_eq v s (i + 2 ^ s), hd, hd']
      refine congrArg₂ (· + ·) ?_ ?_
      · exact Finset.sum_congr rfl fun j hj => by rw [low j hj i (fun _ _ => rfl)]
      · exact Finset.sum_congr rfl fun j hj => by
          rw [high j hj (i + 2 ^ s) hbits, hb]; simp [Nat.add_assoc]
    | true =>
      have hm : i / 2 ^ s % 2 = 1 := by
        rw [testBit_iff, decide_eq_true_eq] at hb; exact hb
      have hge : 2 ^ s ≤ i := by
        by_contra hlt
        rw [Nat.div_eq_of_lt (by omega)] at hm
        omega
      obtain ⟨i', rfl⟩ : ∃ i', i = 2 ^ s + i' := ⟨i - 2 ^ s, by omega⟩
      have hdi : (2 ^ s + i') / 2 ^ s = i' / 2 ^ s + 1 := by rw [Nat.add_comm, Nat.add_div_right _ hp]
      have hd : (2 ^ s + i') / 2 ^ s / 2 * 2 ^ (s + 1) = i' / 2 ^ s * 2 ^ s := by
        rw [hdi] at hm ⊢
        rw [pow_succ, Nat.mul_comm (2 ^ s) 2, ← Nat.mul_assoc]; congr 1; omega
      have hd' : (2 ^ s + i') / 2 ^ s * 2 ^ s = i' / 2 ^ s * 2 ^ s + 2 ^ s := by rw [hdi, Nat.succ_mul]
      have hbits : ∀ b < s, i'.testBit b = (2 ^ s + i').testBit b := fun b hb => (Nat.testBit_two_pow_add_gt hb i').symm
      show cond ((2 ^ s + i').testBit s) _ _ = _
      rw [hb, cond_true, Nat.add_sub_cancel_left, bfR_eq v s i', bfR_eq v s (2 ^ s + i'), hd, hd', sub_eq_add_neg, ← Finset.sum_neg_distrib]
      refine congrArg₂ (· + ·) ?_ ?_
      · exact Finset.sum_congr rfl fun j hj => by rw [low j hj i' hbits]
      · exact Finset.sum_congr rfl fun j hj => by
          rw [high j hj (2 ^ s + i') (fun _ _ => rfl), hb]; simp [Nat.add_assoc]

theorem sgb_split : ∀ (b : Fin 8) (j : Fin 16) (i : ℕ), i < 128 → sgb 7 (8 * j.val + b.val) i = sgb 3 b.val (i % 8) * sgb 4 j.val (i / 8) := by
  have h : ∀ (b : Fin 8) (j : Fin 16) (i : Fin 128), sgb 7 (8 * j.val + b.val) i.val = sgb 3 b.val (i.val % 8) * sgb 4 j.val (i.val / 8) := by decide +kernel
  exact fun b j i hi => h b j ⟨i, hi⟩

theorem coe_sum {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- The sign as an extended real. -/
def sgE (j i : ℕ) : EReal := ((sgb 7 j i : ℝ) : EReal)

theorem bf128_eq (v : ℕ → EReal) (r : ℕ → ℝ) (h : ∀ i < 128, v i = (r i : EReal)) (i : ℕ) (hi : i < 128) :
    bf128 v i = ∑ j : Fin 128, v j.val * sgE j.val i := by
  have e1 : bf128 v i = bf128 (fun j => (r j : EReal)) i := by
    unfold bf128
    exact bfE_congr (fun b => bfE_congr (fun j => h _ (by omega)) _ _) _ _
  have e2 : bf128 (fun j => (r j : EReal)) i = ((bfR (fun b => bfR (fun j => r (8 * (j % 16) + b % 8)) 4 (i / 8)) 3 (i % 8) : ℝ) : EReal) := by
    unfold bf128
    rw [← bfE_coe]
    exact bfE_congr (fun b => bfE_coe _ 4 (i / 8)) _ _
  have e3 : bfR (fun b => bfR (fun j => r (8 * (j % 16) + b % 8)) 4 (i / 8)) 3 (i % 8) = ∑ j : Fin 128, r j.val * (sgb 7 j.val i : ℝ) := by
    rw [bfR_eq]
    have hs : ∑ j : Fin 128, r j.val * (sgb 7 j.val i : ℝ) = ∑ p : Fin 16 × Fin 8, r (8 * p.1.val + p.2.val) * (sgb 7 (8 * p.1.val + p.2.val) i : ℝ) := by
      refine (Equiv.sum_comp (finProdFinEquiv (m := 16) (n := 8)) (fun j : Fin 128 => r j.val * (sgb 7 j.val i : ℝ))).symm.trans ?_
      refine Finset.sum_congr rfl fun p _ => ?_
      show r (p.2.val + 8 * p.1.val) * (sgb 7 (p.2.val + 8 * p.1.val) i : ℝ) = _
      rw [Nat.add_comm]
    rw [hs, Fintype.sum_prod_type, Finset.sum_comm]
    show ∑ j ∈ Finset.range 8, _ = _
    rw [Finset.sum_range]
    refine Finset.sum_congr rfl fun b _ => ?_
    have hb : b.val < 8 := b.isLt
    rw [bfR_eq, Finset.mul_sum]
    show ∑ j ∈ Finset.range 16, _ = _
    rw [Finset.sum_range]
    refine Finset.sum_congr rfl fun j _ => ?_
    have hj : j.val < 16 := j.isLt
    rw [sgb_split b j i hi]
    rw [show 8 * ((i / 8 / 2 ^ 4 * 2 ^ 4 + j.val) % 16) + (i % 8 / 2 ^ 3 * 2 ^ 3 + b.val) % 8 = 8 * j.val + b.val by
      rw [show i / 8 / 2 ^ 4 = 0 by omega, show i % 8 / 2 ^ 3 = 0 by omega]; omega]
    push_cast
    ring
  rw [e1, e2, e3, coe_sum]
  refine Finset.sum_congr rfl fun j _ => ?_
  rw [h j.val j.isLt, EReal.coe_mul]
  rfl

end Cert.Val

end
-- ==== Proof.SignBits.lean ====
/- The signs of the Hadamard rotation as the programs make them from integers, and the permutation the first call makes. -/
module

public import proofs.«01_k».proof.Proof.TripValue
public import proofs.«01_k».proof.Proof.Had

@[expose] public section

set_option maxRecDepth 16384

noncomputable section

namespace Cert.Val
open Idealize.ShloMosaic

theorem sgb_and : ∀ (s j i : ℕ), sgb s j i = sgb s (j &&& i) (j &&& i)
  | 0, _, _ => rfl
  | s + 1, j, i => by
    rw [sgb_succ, sgb_succ, sgb_and s j i, Nat.testBit_and, Bool.and_self]

theorem sign_diag : ∀ c : Fin 128, (1#32 - 2#32 * (IntOp.ctpop (BitVec.ofNat 32 c.val) &&& 1#32)).toInt = sgb 7 c.val c.val := by decide +kernel

theorem ofNat_and (j i : ℕ) (hj : j < 128) (hi : i < 128) : BitVec.ofNat 32 j &&& BitVec.ofNat 32 i = BitVec.ofNat 32 (j &&& i) := by
  have h : j &&& i < 128 := Nat.lt_of_le_of_lt Nat.and_le_left hj
  apply BitVec.eq_of_toNat_eq
  rw [BitVec.toNat_and, BitVec.toNat_ofNat, BitVec.toNat_ofNat, BitVec.toNat_ofNat, Nat.mod_eq_of_lt (by omega), Nat.mod_eq_of_lt (by omega), Nat.mod_eq_of_lt (by omega)]

/-- The sign as the programs make it: minus one to the number of common bits. -/
theorem sign_bits (j i : ℕ) (hj : j < 128) (hi : i < 128) :
    (1#32 - 2#32 * (IntOp.ctpop (BitVec.ofNat 32 j &&& BitVec.ofNat 32 i) &&& 1#32)).toInt = sgb 7 j i := by
  have h : j &&& i < 128 := Nat.lt_of_le_of_lt Nat.and_le_left hj
  rw [ofNat_and j i hj hi, sgb_and]
  exact sign_diag ⟨j &&& i, h⟩

theorem low7 : ∀ j : Fin 256, BitVec.ofNat 32 j.val &&& 127#32 = BitVec.ofNat 32 (j.val % 128) := by decide +kernel

theorem and_low7 (j i : Fin 256) : BitVec.ofNat 32 j.val &&& BitVec.ofNat 32 i.val &&& 127#32 = BitVec.ofNat 32 (j.val % 128) &&& BitVec.ofNat 32 (i.val % 128) := by
  rw [← low7, ← low7]
  ext b
  simp only [BitVec.getElem_and]
  cases (BitVec.ofNat 32 j.val)[b] <;> cases (BitVec.ofNat 32 i.val)[b] <;> cases (127#32)[b] <;> rfl

end Cert.Val

end
-- ==== Proof.RotMats.lean ====
/- The two matrices the first call makes: the signs of the rotation, block by block, and the permutation. -/
module

public import proofs.«01_k».proof.Proof.RotPieces
public import proofs.«01_k».proof.Proof.SignBits
public import Idealize.ShloMosaic.Lib.VecWindow
public import Idealize.ShloMosaic.Lib.IdealHost

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

/-- The block of every column. -/
def hR : IVec S256x256 32 :=
  select (andi (cmpi .ne (subi k0_pay5 k0_pay6) (broadcast S256x256 (Scalar.subi (Scalar.extui (Scalar.cmpi .sgt 128#32 0#32)) (Scalar.extui (Scalar.cmpi .slt 128#32 0#32)))))
    (cmpi .ne (remsi kernelRun0_A.sl.v1 (broadcast S256x256 128#32)) (broadcast S256x256 0#32))) (subi k0_pay4 (broadcast S256x256 1#32)) k0_pay4

theorem hR_val (i j : Fin 256) : hR (ix2 i j) = BitVec.ofNat 32 (j.val / 128) :=
  (show hR (ix2 i j) = hR (ix2 0 j) from rfl).trans ((by decide +kernel : ∀ j : Fin 256, hR (ix2 0 j) = BitVec.ofNat 32 (j.val / 128)) j)
theorem pay3_val (i j : Fin 256) : k0_pay3 (ix2 i j) = BitVec.ofNat 32 (i.val / 128) :=
  (show k0_pay3 (ix2 i j) = k0_pay3 (ix2 i 0) from rfl).trans ((by decide +kernel : ∀ i : Fin 256, k0_pay3 (ix2 i 0) = BitVec.ofNat 32 (i.val / 128)) i)

theorem sel_eq (a b : BitVec 32) (x y : EReal) : Scalar.select (IntOp.cmpi CmpIPredicate.eq a b) x y = if a = b then x else y := by
  by_cases h : a = b
  · subst h
    rw [if_pos rfl]
    simp [Scalar.select, IntOp.cmpi]
  · rw [if_neg h]
    have h' : (a == b) = false := beq_eq_false_iff_ne.2 h
    simp [Scalar.select, IntOp.cmpi, h']

theorem mask_apply (A B : IVec S256x256 32) (S : FVec Ideal S256x256 .f32) (i j : Fin 256) :
    shapeCast S256x256 (truncf .bf16 (select (cmpi .eq A B) S (broadcast S256x256 (Scalar.ofBits .f32 0x00000000#32 : Ideal .f32))) bitsLt_bf16_f32) shapeCasts_S256x256_S256x256 (ix2 i j)
      = if A (ix2 i j) = B (ix2 i j) then S (ix2 i j) else 0 := by
  pointwise
  exact sel_eq _ _ _ _

theorem pay2_val (i j : Fin 256) : k0_pay2 (F := Ideal) (ix2 i j) = sgE (i.val % 128) (j.val % 128) := by
  unfold sgE
  rw [← sign_bits _ _ (Nat.mod_lt _ (by decide)) (Nat.mod_lt _ (by decide)), ← and_low7]
  pointwise [k0_pay2]
  rfl

theorem hadM_val (c : Dev nD) (arg5 : Memref sig .tc .vmem S256x256 .bf16) (i j : Fin 256) :
    hadM (F := Ideal) c arg5 (ix2 i j) = if i.val / 128 = j.val / 128 then sgE (i.val % 128) (j.val % 128) else 0 := by
  have e : hadM (F := Ideal) c arg5 = k0_pay7 kernelRun0_A.sl.v1 k0_pay2 k0_pay3 128#32 k0_pay4 k0_pay5 k0_pay6 := by
    unfold hadM kernelRun0_A.sl.v133 kernelRun0_A.sl.HS0_1
    exact View.readCov_full (s := S256x256) _ _ _ _ []
  refine (congrFun e (ix2 i j)).trans ((mask_apply k0_pay3 hR (k0_pay2 (F := Ideal)) i j).trans ?_)
  rw [pay3_val, hR_val, pay2_val]
  refine if_congr ⟨fun h => ?_, fun h => by rw [h]⟩ rfl rfl
  have := congrArg BitVec.toNat h
  rw [BitVec.toNat_ofNat, BitVec.toNat_ofNat] at this
  omega

/-- The column every row of the permutation picks. -/
def pR : IVec S256x256 32 :=
  addi (k0_pay8 kernelRun0_A.sl.v1) (select (andi (cmpi .ne (subi (extui 32 (cmpi .sgt kernelRun0_A.sl.v1 (broadcast S256x256 0#32)) natLt_1_32) (extui 32 (cmpi .slt kernelRun0_A.sl.v1 (broadcast S256x256 0#32)) natLt_1_32))
      (broadcast S256x256 (Scalar.subi (Scalar.extui (Scalar.cmpi .sgt 32#32 0#32)) (Scalar.extui (Scalar.cmpi .slt 32#32 0#32)))))
    (cmpi .ne (remsi kernelRun0_A.sl.v1 (broadcast S256x256 32#32)) (broadcast S256x256 0#32))) (subi (k0_pay9 kernelRun0_A.sl.v1) (broadcast S256x256 1#32)) (k0_pay9 kernelRun0_A.sl.v1))

theorem pR_val (i j : Fin 256) : pR (ix2 i j) = BitVec.ofNat 32 (8 * (j.val % 32) + j.val / 32) :=
  (show pR (ix2 i j) = pR (ix2 0 j) from rfl).trans ((by decide +kernel : ∀ j : Fin 256, pR (ix2 0 j) = BitVec.ofNat 32 (8 * (j.val % 32) + j.val / 32)) j)

theorem v0_val (i j : Fin 256) : kernelRun0_A.sl.v0 (ix2 i j) = BitVec.ofNat 32 i.val := by
  pointwise [kernelRun0_A.sl.v0]

theorem pick_apply (A B : IVec S256x256 32) (i j : Fin 256) :
    shapeCast S256x256 (truncf .bf16 (select (cmpi .eq A B) (broadcast S256x256 (Scalar.ofBits .f32 0x3F800000#32 : Ideal .f32)) (broadcast S256x256 (Scalar.ofBits .f32 0x00000000#32 : Ideal .f32))) bitsLt_bf16_f32) shapeCasts_S256x256_S256x256 (ix2 i j)
      = if A (ix2 i j) = B (ix2 i j) then 1 else 0 := by
  pointwise
  exact sel_eq _ _ _ _

theorem permM_val (c : Dev nD) (arg6 : Memref sig .tc .vmem S256x256 .bf16) (i j : Fin 256) :
    permM (F := Ideal) c arg6 (ix2 i j) = if i.val = 8 * (j.val % 32) + j.val / 32 then 1 else 0 := by
  have e : permM (F := Ideal) c arg6 = k0_pay10 kernelRun0_A.sl.v0 kernelRun0_A.sl.v1 (k0_pay8 kernelRun0_A.sl.v1) 32#32 (k0_pay9 kernelRun0_A.sl.v1) 0#32 := by
    unfold permM kernelRun0_A.sl.v147 kernelRun0_A.sl.HS1_1
    exact View.readCov_full (s := S256x256) _ _ _ _ []
  refine (congrFun e (ix2 i j)).trans ((pick_apply kernelRun0_A.sl.v0 pR i j).trans ?_)
  rw [v0_val, pR_val]
  refine if_congr ⟨fun h => ?_, fun h => by rw [h]⟩ rfl rfl
  have := congrArg BitVec.toNat h
  rw [BitVec.toNat_ofNat, BitVec.toNat_ofNat] at this
  omega

end Cert.KernelIdeal.Whole

end
-- ==== Proof.RotValue.lean ====
/- The first call's arithmetic over the extended reals, by coordinates. -/
module

public import proofs.«01_k».proof.Proof.RotPieces
public import proofs.«01_k».proof.Proof.TripValue
public import proofs.«01_k».proof.Proof.RotMats
public import proofs.«01_k».proof.Proof.Concat
public import Idealize.ShloMosaic.Lib.WholeRead

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

/-- Narrowing changes no extended real. -/
theorem truncf_at {s : Shape} (x : FVec Ideal s .f32) (i : s.Idx) : truncf (F := Ideal) .bf16 x bitsLt_bf16_f32 i = x i := rfl

theorem prm_apply (R P : FVec Ideal S256x256 .bf16) (r j : Fin 256) : prm R P (ix2 r j) = ∑ d : Fin 256, R (ix2 r d) * P (ix2 d j) := by
  unfold prm
  pointwise [k0_pay32]

theorem rotT_apply (X : FVec Ideal S256x256 .bf16) (U : FVec Ideal S1x256 .f32) (H : FVec Ideal S256x256 .bf16) (r j : Fin 256)
    (hX : ∀ d, ∃ a : ℝ, X (ix2 r d) = a) (hU : ∀ d, ∃ a : ℝ, U (ix2 0 d) = a) :
    rot X U H (ix2 r j) = (∑ d : Fin 256, X (ix2 r d) * U (ix2 0 d) * H (ix2 d j)) * hadScale := by
  have z : ∀ d, X (ix2 r d) * U (ix2 0 d) - X (ix2 r d) * U (ix2 0 d) = (0 : EReal) := fun d => by
    obtain ⟨a, ha⟩ := hX d
    obtain ⟨b, hb⟩ := hU d
    rw [ha, hb, ← EReal.coe_mul, ← EReal.coe_sub, sub_self, EReal.coe_zero]
  unfold rot
  pointwise [k0_pay33]
  refine congrArg₂ (fun x y : EReal => x * y) ?_ rfl
  refine Eq.trans ?_ (zero_add _)
  refine congrArg₂ (fun x y : EReal => x + y) ?_ rfl
  refine Eq.trans ?_ (add_zero (0 : EReal))
  refine congrArg₂ (fun x y : EReal => x + y) ?_ ?_
  · exact Finset.sum_eq_zero fun d _ => by rw [z, sub_zero, zero_mul]
  · exact Finset.sum_eq_zero fun d _ => by rw [z, zero_mul]

/-- Column `d` of the rotated tokens, of the block's row `r`. -/
def XRv (x0 : S256x2304.Idx → EReal) (x1 : S1x2304.Idx → EReal) (r d : ℕ) : EReal :=
  (∑ h : Fin 128, at2 x0 r (d / 128 * 128 + h) * at2 x1 0 (d / 128 * 128 + h) * sgE h.val (d % 128)) * hadScale

/-- The column of the rotated tokens that the permuted copy keeps in its column `col`. -/
def srcCol (col : ℕ) : ℕ :=
  if col < 2048 then (4 * (col / 1024) + col % 128 / 32) * 256 + (8 * (col % 32) + col / 128 % 8) else 2048 + (8 * ((col - 2048) % 32) + (col - 2048) / 32)

/-- A sum over a trellis of what is zero outside one Hadamard block. -/
theorem sum_block (b : ℕ) (hb : b < 2) (v : ℕ → EReal) (s : ℕ → EReal) :
    (∑ d : Fin 256, v d.val * (if d.val / 128 = b then s (d.val % 128) else 0)) = ∑ h : Fin 128, v (b * 128 + h.val) * s h.val := by
  rw [Fin.sum_univ_eq_sum_range (fun d => v d * (if d / 128 = b then s (d % 128) else 0)) 256, Fin.sum_univ_eq_sum_range (fun h => v (b * 128 + h) * s h) 128,
    show 256 = 128 + 128 from rfl, Finset.sum_range_add]
  have lo : ∀ h ∈ Finset.range 128, h / 128 = 0 ∧ h % 128 = h ∧ (128 + h) / 128 = 1 ∧ (128 + h) % 128 = h := fun h hh => by
    have := Finset.mem_range.1 hh
    omega
  rcases (show b = 0 ∨ b = 1 by omega) with rfl | rfl
  · refine Eq.trans (congrArg₂ (fun x y : EReal => x + y) (Finset.sum_congr rfl fun h hh => ?_) (Finset.sum_eq_zero fun h hh => ?_)) (add_zero _)
    · rw [(lo h hh).1, (lo h hh).2.1, if_pos rfl, Nat.zero_mul, Nat.zero_add]
    · rw [(lo h hh).2.2.1, if_neg (by decide), mul_zero]
  · refine Eq.trans (congrArg₂ (fun x y : EReal => x + y) (Finset.sum_eq_zero fun h hh => ?_) (Finset.sum_congr rfl fun h hh => ?_)) (zero_add _)
    · rw [(lo h hh).1, if_neg (by decide), mul_zero]
    · rw [(lo h hh).2.2.1, (lo h hh).2.2.2, if_pos rfl, Nat.one_mul]

variable (c : Dev nD) (arg1 : Memref sig .tc .vmem S256x2304 .bf16) (harg1 : arg1.IsWhole) (arg2 : Memref sig .tc .vmem S1x2304 .f32) (harg2 : arg2.IsWhole) (arg5 arg6 : Memref sig .tc .vmem S256x256 .bf16)
  (x0 : Vec Ideal S256x2304 .bf16) (x1 : Vec Ideal S1x2304 .f32)

theorem xT_val (t : Fin 9) (r d : Fin 256) : xT (F := Ideal) arg1 harg1 x0 t (ix2 r d) = at2 x0 r.val (256 * t.val + d.val) := by
  unfold xT
  refine (Memref.IsWhole.readAt_unread harg1 _ _ _).trans ((eq_at2 (n := 256) (m := 2304) x0 _).trans ?_)
  refine congrArg₂ (at2 x0) ?_ ?_
  · show 0 + 1 * r.val = r.val
    omega
  · show 256 * t.val + 1 * d.val = 256 * t.val + d.val
    omega
theorem uT_val (t : Fin 9) (d : Fin 256) : uT (F := Ideal) arg2 harg2 x1 t (ix2 0 d) = at2 x1 0 (256 * t.val + d.val) := by
  unfold uT
  refine (Memref.IsWhole.readAt_unread harg2 _ _ _).trans ((eq_at2 (n := 1) (m := 2304) x1 _).trans ?_)
  refine congrArg₂ (at2 x1) ?_ ?_
  · show 0 + 1 * 0 = 0
    omega
  · show 256 * t.val + 1 * d.val = 256 * t.val + d.val
    omega

variable (h0 : ∀ r d, ∃ a : ℝ, at2 x0 r d = a) (h1 : ∀ r d, ∃ a : ℝ, at2 x1 r d = a)
include h0 h1

theorem xrT_val (t : Fin 9) (r j : Fin 256) : xrT (F := Ideal) c arg1 harg1 arg2 harg2 arg5 x0 x1 t (ix2 r j) = XRv x0 x1 r.val (256 * t.val + j.val) := by
  unfold xrT
  refine (rotT_apply _ _ _ r j (fun d => ?_) (fun d => ?_)).trans ?_
  · rw [xT_val]; exact h0 _ _
  · rw [uT_val]; exact h1 _ _
  unfold XRv
  refine congrArg (· * hadScale) ?_
  refine Eq.trans (Finset.sum_congr rfl fun d _ => ?_) ((sum_block (j.val / 128) (by omega) (fun d => at2 x0 r.val (256 * t.val + d) * at2 x1 0 (256 * t.val + d)) (fun h => sgE h (j.val % 128))).trans (Finset.sum_congr rfl fun h _ => ?_))
  · rw [xT_val, uT_val, hadM_val]
  · have e : 256 * t.val + (j.val / 128 * 128 + h.val) = (256 * t.val + j.val) / 128 * 128 + h.val := by omega
    have e' : (256 * t.val + j.val) % 128 = j.val % 128 := by omega
    show at2 x0 r.val (256 * t.val + (j.val / 128 * 128 + h.val)) * at2 x1 0 (256 * t.val + (j.val / 128 * 128 + h.val)) * _ = _
    rw [e, e']

theorem byT_val (t : Fin 9) (r j : Fin 256) : byT (F := Ideal) c arg1 harg1 arg2 harg2 arg5 arg6 x0 x1 t (ix2 r j) = XRv x0 x1 r.val (256 * t.val + (8 * (j.val % 32) + j.val / 32)) := by
  unfold byT
  refine (prm_apply _ _ r j).trans ?_
  refine (Finset.sum_eq_single (⟨8 * (j.val % 32) + j.val / 32, by omega⟩ : Fin 256) (fun d _ hd => ?_) (fun h => absurd (Finset.mem_univ _) h)).trans ?_
  · rw [permM_val, if_neg (fun h => hd (Fin.ext h)), mul_zero]
  · rw [permM_val, if_pos rfl, mul_one]
    exact xrT_val c arg1 harg1 arg2 harg2 arg5 x0 x1 h0 h1 t r _

theorem xpQ_val (q : Fin 16) (r : Fin 256) (l : Fin 128) : xpQ (F := Ideal) c arg1 harg1 arg2 harg2 arg5 arg6 x0 x1 q (ix2 r l) = XRv x0 x1 r.val (srcCol (128 * q.val + l.val)) := by
  unfold xpQ
  refine (truncf_at _ _).trans ?_
  refine concatenate_range (t := S256x128) (s := S256x32) 1 4 32 (fun t => extractStridedSlice S256x32 ![0, 32 * (q.val % 8)] (byT (F := Ideal) c arg1 harg1 arg2 harg2 arg5 arg6 x0 x1 ⟨(4 * (q.val / 8) + t) % 9, by omega⟩) (by revert q; decide)) concatenates_S256x32_S256x32_S256x32_S256x32_S256x128_d1 rfl rfl (ix2 r l) _ (fun t ht i hi hi' => ?_)
  have e0 : (i 0).val = r.val := hi' 0 (by decide)
  have e1 : t * 32 + (i 1).val = l.val := hi
  have b1 : (i 1).val < 32 := (i 1).isLt
  have hq := q.isLt
  refine Eq.trans (b := byT (F := Ideal) c arg1 harg1 arg2 harg2 arg5 arg6 x0 x1 ⟨(4 * (q.val / 8) + t) % 9, by omega⟩ (ix2 r ⟨32 * (q.val % 8) + (i 1).val, by omega⟩)) ?_ ?_
  · refine congrArg (byT (F := Ideal) c arg1 harg1 arg2 harg2 arg5 arg6 x0 x1 ⟨(4 * (q.val / 8) + t) % 9, by omega⟩) (funext fun a => Fin.ext ?_)
    match a with
    | ⟨0, _⟩ =>
      show 0 + (i 0).val = r.val
      omega
    | ⟨1, _⟩ => rfl
  · refine (byT_val c arg1 harg1 arg2 harg2 arg5 arg6 x0 x1 h0 h1 _ r _).trans ?_
    refine congrArg (XRv x0 x1 r.val) ?_
    unfold srcCol
    rw [if_pos (by omega)]
    show 256 * ((4 * (q.val / 8) + t) % 9) + (8 * ((32 * (q.val % 8) + (i 1).val) % 32) + (32 * (q.val % 8) + (i 1).val) / 32)
      = (4 * ((128 * q.val + l.val) / 1024) + (128 * q.val + l.val) % 128 / 32) * 256 + (8 * ((128 * q.val + l.val) % 32) + (128 * q.val + l.val) / 128 % 8)
    rw [← e1]
    generalize (i 1).val = w at b1 ⊢
    have hl := l.isLt
    clear e1 e0 hi hi' h0 h1
    rw [show (128 * q.val + (t * 32 + w)) / 1024 = q.val / 8 by omega, show (128 * q.val + (t * 32 + w)) % 128 / 32 = t by omega, show (128 * q.val + (t * 32 + w)) % 32 = w by omega,
      show (128 * q.val + (t * 32 + w)) / 128 = q.val by omega, show (32 * (q.val % 8) + w) % 32 = w by omega, show (32 * (q.val % 8) + w) / 32 = q.val % 8 by omega, show (4 * (q.val / 8) + t) % 9 = 4 * (q.val / 8) + t by omega]
    omega

end Cert.KernelIdeal.Whole

end
-- ==== Proof.RotOut.lean ====
/- The first call's two output blocks over the extended reals, by coordinates. -/
module

public import proofs.«01_k».proof.Proof.RotValue
public import proofs.«01_k».proof.Proof.TripValue
public import proofs.«01_k».proof.Proof.RotMats
public import proofs.«01_k».proof.Proof.Concat
public import Idealize.ShloMosaic.Lib.WholeRead

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

variable (c : Dev nD) (i : grid0.Coords) (arg1 : Memref sig .tc .vmem S256x2304 .bf16) (harg1 : arg1.IsWhole) (arg2 : Memref sig .tc .vmem S1x2304 .f32) (harg2 : arg2.IsWhole) (arg3 : Memref sig .tc .vmem S256x2304 .bf16) (harg3 : arg3.IsWhole) (arg4 : Memref sig .tc .vmem S256x2304 .bf16) (harg4 : arg4.IsWhole) (arg5 : Memref sig .tc .vmem S256x256 .bf16) (harg5 : arg5.IsWhole) (arg6 : Memref sig .tc .vmem S256x256 .bf16) (harg6 : arg6.IsWhole) (x0 : Vec Ideal S256x2304 .bf16) (x1 : Vec Ideal S1x2304 .f32)
variable (h0 : ∀ r d, ∃ a : ℝ, at2 x0 r d = a) (h1 : ∀ r d, ∃ a : ℝ, at2 x1 r d = a)
include h0 h1

/-- The rotated tokens' block. -/
theorem out0_2_apply (y : S256x2304.Idx) :
    out0_A_2 (F := Ideal) c i arg1 harg1 arg2 harg2 arg3 harg3 arg4 harg4 arg5 harg5 arg6 harg6 x0 x1 y = XRv x0 x1 (y 0).val (y 1).val := by
  unfold out0_A_2
  refine (congrFun (View.read_writes_junk_eq_canon _ _) y).trans ?_
  refine View.canon_apply_of_pieces (S := S256x2304) (e := .bf16) (fun y => XRv x0 x1 (y 0).val (y 1).val) _ (fun p hp => ?_) y (cover0_A_2 (F := Ideal) c i arg1 harg1 arg2 harg2 arg3 harg3 arg4 harg4 arg5 harg5 arg6 harg6 x0 x1 y)
  rw [xrL_eq] at hp
  obtain ⟨t, -, rfl⟩ := List.mem_map.1 hp
  intro (x : S256x256.Idx)
  have ex : x = ix2 (x 0) (x 1) := by
    funext a
    match a with
    | ⟨0, _⟩ => rfl
    | ⟨1, _⟩ => rfl
  show xrT (F := Ideal) c arg1 harg1 arg2 harg2 arg5 x0 x1 t x = XRv x0 x1 (0 + 1 * (x 0).val) (256 * t.val + 1 * (x 1).val)
  refine (congrArg (xrT (F := Ideal) c arg1 harg1 arg2 harg2 arg5 x0 x1 t) ex).trans ((xrT_val c arg1 harg1 arg2 harg2 arg5 x0 x1 h0 h1 t (x 0) (x 1)).trans ?_)
  rw [Nat.one_mul, Nat.one_mul, Nat.zero_add]

/-- The permuted copy's block. -/
theorem out0_3_apply (y : S256x2304.Idx) :
    out0_A_3 (F := Ideal) c i arg1 harg1 arg2 harg2 arg3 harg3 arg4 harg4 arg5 harg5 arg6 harg6 x0 x1 y = XRv x0 x1 (y 0).val (srcCol (y 1).val) := by
  unfold out0_A_3
  refine (congrFun (View.read_writes_junk_eq_canon _ _) y).trans ?_
  refine View.canon_apply_of_pieces (S := S256x2304) (e := .bf16) (fun y => XRv x0 x1 (y 0).val (srcCol (y 1).val)) _ (fun p hp => ?_) y (cover0_A_3 (F := Ideal) c i arg1 harg1 arg2 harg2 arg3 harg3 arg4 harg4 arg5 harg5 arg6 harg6 x0 x1 y)
  rw [xpL_eq] at hp
  rcases List.mem_cons.1 hp with rfl | hp
  · intro (x : S256x256.Idx)
    have b1 : (x 1).val < 256 := (x 1).isLt
    have ex : x = ix2 (x 0) (x 1) := by
      funext a
      match a with
      | ⟨0, _⟩ => rfl
      | ⟨1, _⟩ => rfl
    show byT (F := Ideal) c arg1 harg1 arg2 harg2 arg5 arg6 x0 x1 8 x = XRv x0 x1 (0 + 1 * (x 0).val) (srcCol (2048 + 1 * (x 1).val))
    refine (congrArg (byT (F := Ideal) c arg1 harg1 arg2 harg2 arg5 arg6 x0 x1 8) ex).trans ((byT_val c arg1 harg1 arg2 harg2 arg5 arg6 x0 x1 h0 h1 8 (x 0) (x 1)).trans ?_)
    rw [Nat.one_mul, Nat.one_mul, Nat.zero_add]
    refine congrArg (XRv x0 x1 _) ?_
    unfold srcCol
    rw [if_neg (by omega), show 2048 + (x 1).val - 2048 = (x 1).val by omega]
    rfl
  · obtain ⟨q, -, rfl⟩ := List.mem_map.1 hp
    intro (x : S256x128.Idx)
    have ex : x = ix2 (x 0) (x 1) := by
      funext a
      match a with
      | ⟨0, _⟩ => rfl
      | ⟨1, _⟩ => rfl
    show xpQ (F := Ideal) c arg1 harg1 arg2 harg2 arg5 arg6 x0 x1 q x = XRv x0 x1 (0 + 1 * (x 0).val) (srcCol (128 * q.val + 1 * (x 1).val))
    refine (congrArg (xpQ (F := Ideal) c arg1 harg1 arg2 harg2 arg5 arg6 x0 x1 q) ex).trans ((xpQ_val c arg1 harg1 arg2 harg2 arg5 arg6 x0 x1 h0 h1 q (x 0) (x 1)).trans ?_)
    rw [Nat.one_mul, Nat.one_mul, Nat.zero_add]

end Cert.KernelIdeal.Whole

end
-- ==== Proof.FiniteVal.lean ====
/- Which of the numbers are finite: the decoded halves, the scale, and sums and products of finite numbers. -/
module

public import proofs.«01_k».proof.Proof.RotValue
public import proofs.«01_k».proof.Proof.DecBits

@[expose] public section

noncomputable section

namespace Cert.KernelIdeal.Whole

open Idealize.ShloMosaic Cert.Val
open Idealize.ShloMosaic.ValueIdx hiding ix2

/-- A float32 whose top exponent bit is off is a real number. -/
theorem ofBits_real (b : BitVec 32) (h : b.getLsbD 30 = false) : ∃ a : ℝ, Ideal.ofBits FTy.f32 b = a := by
  show ∃ a : ℝ, Ideal.ieee 8 23 b = a
  unfold Ideal.ieee
  dsimp only
  have hne : ¬ ((b.extractLsb' 23 8).toNat = 2 ^ 8 - 1) := by
    intro e
    have h7 : (b.extractLsb' 23 8).getLsbD 7 = true := by
      rw [BitVec.getLsbD, e]; decide
    rw [BitVec.getLsbD_extractLsb'] at h7
    simp only [Nat.reduceAdd] at h7
    rw [h] at h7
    simp at h7
  rw [if_neg hne]
  split
  · exact ⟨_, rfl⟩
  · exact ⟨_, rfl⟩

theorem halfB_top (v : BitVec 32) : (halfB v).getLsbD 30 = false := by
  show ((v.sshiftRight _ &&& 2181029888#32) ^^^ 1064042496#32).getLsbD 30 = false
  have h1 : (2181029888#32).getLsbD 30 = false := by decide
  have h2 : (1064042496#32).getLsbD 30 = false := by decide
  rw [BitVec.getLsbD_xor, BitVec.getLsbD_and, h1, h2, Bool.and_false]
  rfl

theorem real_add {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem real_sum {n : ℕ} (f : Fin n → EReal) (h : ∀ i, ∃ a : ℝ, f i = a) : ∃ a : ℝ, (∑ i, f i) = a := by
  choose g hg using h
  refine ⟨∑ i, g i, ?_⟩
  rw [coe_sum]
  exact Finset.sum_congr rfl fun i _ => hg i

/-- A decoded weight is finite. -/
theorem decB_real (s : BitVec 32) : ∃ a : ℝ, decB s = a :=
  real_add (ofBits_real _ (halfB_top _)) (ofBits_real _ (halfB_top _))

theorem hadScale_real : ∃ a : ℝ, hadScale = a := ofBits_real 1035273459#32 (by decide)

theorem sgE_real (j i : ℕ) : ∃ a : ℝ, sgE j i = a := ⟨_, rfl⟩

/-- A rotated token is finite when the token and its signs are. -/
theorem XRv_real (x0 : S256x2304.Idx → EReal) (x1 : S1x2304.Idx → EReal) (h0 : ∀ r d, ∃ a : ℝ, at2 x0 r d = a) (h1 : ∀ r d, ∃ a : ℝ, at2 x1 r d = a)
    (r d : ℕ) : ∃ a : ℝ, XRv x0 x1 r d = a :=
  real_mul (real_sum _ fun _ => real_mul (real_mul (h0 _ _) (h1 _ _)) (sgE_real _ _)) hadScale_real

end Cert.KernelIdeal.Whole

end
-- ==== Proof.ArrRot.lean ====
/- The first call's two output arrays over the extended reals, at the contents the call is entered with. -/
module

public import proofs.«01_k».proof.Proof.RotOut
public import proofs.«01_k».proof.Proof.FiniteVal
public import proofs.«01_k».proof.Proof.Region0
public import Idealize.ShloMosaic.Lib.Pipeline.ValueKit

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

/-- The rotated tokens of the whole array. -/
def XRg (X : S1536x2304.Idx → EReal) (U : S1x2304.Idx → EReal) (r d : ℕ) : EReal :=
  (∑ h : Fin 128, at2 X r (d / 128 * 128 + h.val) * at2 U 0 (d / 128 * 128 + h.val) * sgE h.val (d % 128)) * hadScale

theorem XRg_real (X : S1536x2304.Idx → EReal) (U : S1x2304.Idx → EReal) (h0 : ∀ r d, ∃ a : ℝ, at2 X r d = a) (h1 : ∀ r d, ∃ a : ℝ, at2 U r d = a)
    (r d : ℕ) : ∃ a : ℝ, XRg X U r d = a :=
  real_mul (real_sum _ fun _ => real_mul (real_mul (h0 _ _) (h1 _ _)) (sgE_real _ _)) hadScale_real

variable (V : (c : Dev nD) → (b : Ref sig .tc) → Buf (Elt Ideal) ((c : Thread nD τ).loc b))

/-- The tokens and the signs the call is entered with. -/
def X0 (c : Dev nD) : S1536x2304.Idx → EReal := V c main_v0
def U0 (c : Dev nD) : S1x2304.Idx → EReal := V c main_v1

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![t.val, 0] := (by decide +kernel : ∀ t : Fin grid0.N, _)
theorem ix0_3 : ∀ t : Fin cfg0.N, win0_3.index t = ![t.val, 0] := (by decide +kernel : ∀ t : Fin grid0.N, _)

theorem blk0_0 (c : Dev nD) (t : Fin cfg0.N) (y : S256x2304.Idx) :
    (iblk0 V c 0 t : S256x2304.Idx → EReal) y = at2 (X0 V c) (256 * t.val + (y 0).val) (y 1).val := by
  have e := eq_at2 (n := 1536) (m := 2304) (X0 V c) (((cfg0.win 0).blk t).view.emb y)
  refine Eq.trans ?_ (e.trans ?_)
  · rfl
  · blk_simp
    rw [ix0_0 t]
    refine congrArg₂ (at2 (X0 V c)) ?_ ?_
    · show t.val * 256 + (y 0).val = _
      omega
    · show 0 * 2304 + (y 1).val = _
      omega

theorem blk0_1 (c : Dev nD) (t : Fin cfg0.N) (y : S1x2304.Idx) :
    (iblk0 V c 1 t : S1x2304.Idx → EReal) y = at2 (U0 V c) (y 0).val (y 1).val := by
  have e := eq_at2 (n := 1) (m := 2304) (U0 V c) (((cfg0.win 1).blk t).view.emb y)
  refine Eq.trans ?_ (e.trans ?_)
  · rfl
  · blk_simp
    rw [ix0_1 t]
    refine congrArg₂ (at2 (U0 V c)) ?_ ?_
    · rfl
    · show 0 * 2304 + (y 1).val = _
      omega

theorem srcCol_lt (q : ℕ) (h : q < 2304) : srcCol q < 2304 := by
  unfold srcCol
  split <;> omega

/-- A property of every entry of a matrix and of zero, read at two numbers. -/
theorem at2_ind {n m : ℕ} (v : (⟨2, ![n, m]⟩ : Shape).Idx → EReal) (h : ∀ y, ∃ a : ℝ, v y = a) (r d : ℕ) : ∃ a : ℝ, at2 v r d = a := by
  unfold at2
  split
  · exact h _
  · exact ⟨0, rfl⟩

theorem at2_blk {n m : ℕ} (v : (⟨2, ![n, m]⟩ : Shape).Idx → EReal) (f : ℕ → ℕ → EReal) (h : ∀ y, v y = f (y 0).val (y 1).val) (r d : ℕ) (hr : r < n) (hd : d < m) :
    at2 v r d = f r d := by
  unfold at2
  rw [dif_pos ⟨hr, hd⟩]
  exact h _

variable (c : Dev nD)
  (h0 : ∀ r d, ∃ a : ℝ, at2 (X0 V c) r d = a) (h1 : ∀ r d, ∃ a : ℝ, at2 (U0 V c) r d = a)

theorem XRv_blk (t : Fin cfg0.N) (r d : ℕ) (hr : r < 256) (hd : d < 2304) :
    XRv (iblk0 V c 0 t) (iblk0 V c 1 t) r d = XRg (X0 V c) (U0 V c) (256 * t.val + r) d := by
  refine congrArg (· * hadScale) (Finset.sum_congr rfl fun h _ => ?_)
  have hh : d / 128 * 128 + h.val < 2304 := by omega
  rw [at2_blk (n := 256) (m := 2304) (iblk0 V c 0 t) (fun r d => at2 (X0 V c) (256 * t.val + r) d) (blk0_0 V c t) r _ hr hh,
    at2_blk (n := 1) (m := 2304) (iblk0 V c 1 t) (fun r d => at2 (U0 V c) r d) (blk0_1 V c t) 0 _ (by omega) hh]

include h0 h1

/-- The blocks the call's points leave. -/
theorem outs0_1 (t : Fin cfg0.N) (y : S256x2304.Idx) : (outsAt0 V c t).1 y = XRg (X0 V c) (U0 V c) (256 * t.val + (y 0).val) (y 1).val := by
  have f0 : ∀ r d, ∃ a : ℝ, at2 (n := 256) (m := 2304) (iblk0 V c 0 t) r d = a := at2_ind (n := 256) (m := 2304) _ fun y => (blk0_0 V c t y).symm ▸ h0 _ _
  have f1 : ∀ r d, ∃ a : ℝ, at2 (n := 1) (m := 2304) (iblk0 V c 1 t) r d = a := at2_ind (n := 1) (m := 2304) _ fun y => (blk0_1 V c t y).symm ▸ h1 _ _
  have e := out0_2_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) f0 f1 y
  have e1 : (outsAt0 V c t).1 = out0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) := by unfold outsAt0; rfl
  refine (congrFun e1 y).trans (e.trans ?_)
  exact
    (XRv_blk V c t _ _ (y 0).isLt (y 1).isLt)

theorem outs0_2 (t : Fin cfg0.N) (y : S256x2304.Idx) : (outsAt0 V c t).2 y = XRg (X0 V c) (U0 V c) (256 * t.val + (y 0).val) (srcCol (y 1).val) := by
  have f0 : ∀ r d, ∃ a : ℝ, at2 (n := 256) (m := 2304) (iblk0 V c 0 t) r d = a := at2_ind (n := 256) (m := 2304) _ fun y => (blk0_0 V c t y).symm ▸ h0 _ _
  have f1 : ∀ r d, ∃ a : ℝ, at2 (n := 1) (m := 2304) (iblk0 V c 1 t) r d = a := at2_ind (n := 1) (m := 2304) _ fun y => (blk0_1 V c t y).symm ▸ h1 _ _
  have e := out0_3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) f0 f1 y
  have e1 : (outsAt0 V c t).2 = out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) := by unfold outsAt0; rfl
  refine (congrFun e1 y).trans (e.trans ?_)
  exact
    (XRv_blk V c t _ _ (y 0).isLt (srcCol_lt _ (y 1).isLt))

theorem arr0_2 : (dat0 V c).arrAt 2 cfg0.N = (fun i : S1536x2304.Idx => XRg (X0 V c) (U0 V c) (i 0).val (i 1).val) := by
  refine (dat0 V c).arrAt_eq_of_covers 2 _ (by decide +kernel) fun t hf y => ?_
  rw [after0_2]
  blk_simp
  refine (outs0_1 V c h0 h1 t y).trans ?_
  rw [ix0_2 t]
  refine congrArg₂ (XRg (X0 V c) (U0 V c)) ?_ ?_
  · show 256 * t.val + (y 0).val = t.val * 256 + (y 0).val
    omega
  · show (y 1).val = 0 * 2304 + (y 1).val
    omega

theorem arr0_3 : (dat0 V c).arrAt 3 cfg0.N = (fun i : S1536x2304.Idx => XRg (X0 V c) (U0 V c) (i 0).val (srcCol (i 1).val)) := by
  refine (dat0 V c).arrAt_eq_of_covers 3 _ (by decide +kernel) fun t hf y => ?_
  rw [after0_3]
  blk_simp
  refine (outs0_2 V c h0 h1 t y).trans ?_
  rw [ix0_3 t]
  refine congrArg₂ (fun a b => XRg (X0 V c) (U0 V c) a (srcCol b)) ?_ ?_
  · show 256 * t.val + (y 0).val = t.val * 256 + (y 0).val
    omega
  · show (y 1).val = 0 * 2304 + (y 1).val
    omega

end Cert.KernelIdeal.Whole

end
-- ==== Proof.ArrOut.lean ====
/- The second call's output array over the extended reals, at the contents the call is entered with. -/
module

public import proofs.«01_k».proof.Proof.OutValue
public import proofs.«01_k».proof.Proof.WtValue
public import proofs.«01_k».proof.Proof.RsValue
public import proofs.«01_k».proof.Proof.ArrRot
public import proofs.«01_k».proof.Proof.Region1
public import Idealize.ShloMosaic.Lib.Pipeline.ValueKit

@[expose] public section

set_option maxRecDepth 16384

noncomputable section

namespace Cert.KernelIdeal.Whole

open Cert.KernelIdeal.Gen Cert.Val

open Idealize.ShloMosaic Idealize.ShloMosaic.TcCoe Idealize.ShloMosaic.Tactic
open Idealize.ShloMosaic.ValueIdx hiding ix2

/-- A decoded weight of the whole array, in the second call's order of columns. -/
def WtG (C : S9216x288.Idx → BitVec 16) (G : S9216x9.Idx → EReal) (o q : ℕ) : EReal :=
  decB (stB (atB C o (colT (q / 128) (q % 128) * 32 + q % 128 % 32)) (atB C o (colT (q / 128) (q % 128) * 32 + (q % 128 % 32 + 1) % 32)) (colF (q / 128) (q % 128)))
    * at2 G o (colT (q / 128) (q % 128))

/-- The product of a rotated token with the rows of the weights, scaled and rotated. -/
def Yg (C : S9216x288.Idx → BitVec 16) (G : S9216x9.Idx → EReal) (R S : S72x128.Idx → EReal) (P : S1536x2304.Idx → EReal) (s o : ℕ) : EReal :=
  (∑ h : Fin 128, (∑ q : Fin 2304, WtG C G (o / 128 * 128 + h.val) q.val * at2 P s q.val) * at2 R (o / 128) h.val * sgE h.val (o % 128))
    * (at2 S (o / 128) (o % 128) * hadScale)

/-- The output block's entry, as the product with the matrix of signs. -/
theorem Yv_eq (x4 : S8x128.Idx → EReal) (x5 : S1536x2304.Idx → EReal) (x7 : S1024x2304.Idx → EReal) (x8 : S1024x128.Idx → EReal) (W : ℕ → ℕ → EReal) (R : ℕ → EReal)
    (h7 : ∀ r q, r < 1024 → q < 2304 → at2 x7 r q = W r q) (h8 : ∀ r l, r < 1024 → l < 128 → at2 x8 r l = R r)
    (hW : ∀ r q, ∃ a : ℝ, W r q = a) (hR : ∀ r, ∃ a : ℝ, R r = a) (h5 : ∀ s q, ∃ a : ℝ, at2 x5 s q = a) (s j : ℕ) (hj : j < 1024) :
    Yv x4 x5 x7 x8 s j = (∑ h : Fin 128, (∑ q : Fin 2304, W (j / 128 * 128 + h.val) q.val * at2 x5 s q.val) * R (j / 128 * 128 + h.val) * sgE h.val (j % 128))
      * (at2 x4 (j / 128) (j % 128) * hadScale) := by
  unfold Yv
  refine congrArg (· * (at2 x4 (j / 128) (j % 128) * hadScale)) ?_
  have key : ∀ h, h < 128 → (∑ q : Fin 2304, at2 x7 (j / 128 * 128 + h) q.val * at2 x5 s q.val) * at2 x8 (j / 128 * 128 + h) (s % 128)
      = (∑ q : Fin 2304, W (j / 128 * 128 + h) q.val * at2 x5 s q.val) * R (j / 128 * 128 + h) := by
    intro h hh
    rw [h8 _ _ (by omega) (by omega)]
    refine congrArg (· * R (j / 128 * 128 + h)) (Finset.sum_congr rfl fun q _ => ?_)
    rw [h7 _ _ (by omega) q.isLt]
  have re : ∀ h, ∃ a : ℝ, (∑ q : Fin 2304, W (j / 128 * 128 + h) q.val * at2 x5 s q.val) * R (j / 128 * 128 + h) = a :=
    fun h => real_mul (real_sum _ fun _ => real_mul (hW _ _) (h5 _ _)) (hR _)
  choose r hr using re
  refine (bf128_eq _ r (fun h hh => (key h hh).trans (hr h)) _ (by omega)).trans (Finset.sum_congr rfl fun h _ => ?_)
  exact congrArg (· * sgE h.val (j % 128)) (key h.val h.isLt)

theorem atB_blk {n m : ℕ} (v : (⟨2, ![n, m]⟩ : Shape).Idx → BitVec 16) (f : ℕ → ℕ → BitVec 16) (h : ∀ y, v y = f (y 0).val (y 1).val) (r d : ℕ) (hr : r < n) (hd : d < m) :
    atB v r d = f r d := by
  unfold atB
  rw [dif_pos ⟨hr, hd⟩]
  exact h _

variable (V : (c : Dev nD) → (b : Ref sig .tc) → Buf (Elt Ideal) ((c : Thread nD τ).loc b))

/-- The codes, the group scales, the row scales, the output signs and the rotated tokens the call is entered with. -/
def C1 (c : Dev nD) : S9216x288.Idx → BitVec 16 := V c main_arg1
def G1 (c : Dev nD) : S9216x9.Idx → EReal := V c main_arg3
def R1 (c : Dev nD) : S72x128.Idx → EReal := V c main_v3
def S1 (c : Dev nD) : S72x128.Idx → EReal := V c main_v4
def XP1 (c : Dev nD) : S1536x2304.Idx → EReal := V c main_v2_1

theorem ix1_0 : ∀ t : Fin cfg1.N, win1_0.index t = ![t.val, 0] := (by decide +kernel : ∀ t : Fin grid1.N, _)
theorem ix1_1 : ∀ t : Fin cfg1.N, win1_1.index t = ![t.val, 0] := (by decide +kernel : ∀ t : Fin grid1.N, _)
theorem ix1_2 : ∀ t : Fin cfg1.N, win1_2.index t = ![t.val, 0] := (by decide +kernel : ∀ t : Fin grid1.N, _)
theorem ix1_3 : ∀ t : Fin cfg1.N, win1_3.index t = ![t.val, 0] := (by decide +kernel : ∀ t : Fin grid1.N, _)
theorem ix1_4 : ∀ t : Fin cfg1.N, win1_4.index t = ![0, 0] := (by decide +kernel : ∀ t : Fin grid1.N, _)
theorem ix1_5 : ∀ t : Fin cfg1.N, win1_5.index t = ![0, t.val] := (by decide +kernel : ∀ t : Fin grid1.N, _)

theorem blk1_0 (c : Dev nD) (t : Fin cfg1.N) (y : S1024x288.Idx) :
    (iblk1 V c 0 t : S1024x288.Idx → BitVec 16) y = atB (C1 V c) (1024 * t.val + (y 0).val) (y 1).val := by
  have e := eq_atB (n := 9216) (m := 288) (C1 V c) (((cfg1.win 0).blk t).view.emb y)
  refine Eq.trans ?_ (e.trans ?_)
  · rfl
  · blk_simp
    rw [ix1_0 t]
    refine congrArg₂ (atB (C1 V c)) ?_ ?_
    · show t.val * 1024 + (y 0).val = _
      omega
    · show 0 * 288 + (y 1).val = _
      omega

theorem blk1_1 (c : Dev nD) (t : Fin cfg1.N) (y : S1024x9.Idx) :
    (iblk1 V c 1 t : S1024x9.Idx → EReal) y = at2 (G1 V c) (1024 * t.val + (y 0).val) (y 1).val := by
  have e := eq_at2 (n := 9216) (m := 9) (G1 V c) (((cfg1.win 1).blk t).view.emb y)
  refine Eq.trans ?_ (e.trans ?_)
  · rfl
  · blk_simp
    rw [ix1_1 t]
    refine congrArg₂ (at2 (G1 V c)) ?_ ?_
    · show t.val * 1024 + (y 0).val = _
      omega
    · show 0 * 9 + (y 1).val = _
      omega

theorem blk1_2 (c : Dev nD) (t : Fin cfg1.N) (y : S8x128.Idx) :
    (iblk1 V c 2 t : S8x128.Idx → EReal) y = at2 (R1 V c) (8 * t.val + (y 0).val) (y 1).val := by
  have e := eq_at2 (n := 72) (m := 128) (R1 V c) (((cfg1.win 2).blk t).view.emb y)
  refine Eq.trans ?_ (e.trans ?_)
  · rfl
  · blk_simp
    rw [ix1_2 t]
    refine congrArg₂ (at2 (R1 V c)) ?_ ?_
    · show t.val * 8 + (y 0).val = _
      omega
    · show 0 * 128 + (y 1).val = _
      omega

theorem blk1_3 (c : Dev nD) (t : Fin cfg1.N) (y : S8x128.Idx) :
    (iblk1 V c 3 t : S8x128.Idx → EReal) y = at2 (S1 V c) (8 * t.val + (y 0).val) (y 1).val := by
  have e := eq_at2 (n := 72) (m := 128) (S1 V c) (((cfg1.win 3).blk t).view.emb y)
  refine Eq.trans ?_ (e.trans ?_)
  · rfl
  · blk_simp
    rw [ix1_3 t]
    refine congrArg₂ (at2 (S1 V c)) ?_ ?_
    · show t.val * 8 + (y 0).val = _
      omega
    · show 0 * 128 + (y 1).val = _
      omega

theorem blk1_4 (c : Dev nD) (t : Fin cfg1.N) (y : S1536x2304.Idx) :
    (iblk1 V c 4 t : S1536x2304.Idx → EReal) y = at2 (XP1 V c) (y 0).val (y 1).val := by
  have e := eq_at2 (n := 1536) (m := 2304) (XP1 V c) (((cfg1.win 4).blk t).view.emb y)
  refine Eq.trans ?_ (e.trans ?_)
  · rfl
  · blk_simp
    rw [ix1_4 t]
    refine congrArg₂ (at2 (XP1 V c)) ?_ ?_
    · show 0 * 1536 + (y 0).val = _
      omega
    · show 0 * 2304 + (y 1).val = _
      omega

theorem colT_lt (q : ℕ) (h : q < 2304) : colT (q / 128) (q % 128) < 9 := by
  unfold colT
  split <;> omega

/-- A decoded weight of a block is that of the whole array at the block's place. -/
theorem Wt_blk (c : Dev nD) (t : Fin cfg1.N) (r q : ℕ) (hr : r < 1024) (hq : q < 2304) :
    Wt (iblk1 V c 0 t) (iblk1 V c 1 t) r q = WtG (C1 V c) (G1 V c) (1024 * t.val + r) q := by
  have hT := colT_lt q hq
  show decB (stB (atB (n := 1024) (m := 288) (iblk1 V c 0 t) r _) (atB (n := 1024) (m := 288) (iblk1 V c 0 t) r _) _) * at2 (n := 1024) (m := 9) (iblk1 V c 1 t) r _ = _
  unfold WtG
  rw [atB_blk (n := 1024) (m := 288) (iblk1 V c 0 t) (fun r d => atB (C1 V c) (1024 * t.val + r) d) (blk1_0 V c t) r _ hr (by omega),
    atB_blk (n := 1024) (m := 288) (iblk1 V c 0 t) (fun r d => atB (C1 V c) (1024 * t.val + r) d) (blk1_0 V c t) r _ hr (by omega),
    at2_blk (n := 1024) (m := 9) (iblk1 V c 1 t) (fun r d => at2 (G1 V c) (1024 * t.val + r) d) (blk1_1 V c t) r _ hr hT]

variable (c : Dev nD)
  (hG : ∀ r d, ∃ a : ℝ, at2 (G1 V c) r d = a) (hR : ∀ r d, ∃ a : ℝ, at2 (R1 V c) r d = a) (hP : ∀ r d, ∃ a : ℝ, at2 (XP1 V c) r d = a)
include hG hR hP

/-- The entry of the block, from what its weights and its row scales hold. -/
theorem out_step (t : Fin cfg1.N) (y : S1536x1024.Idx) (z : EReal) (x7 : S1024x2304.Idx → EReal) (x8 : S1024x128.Idx → EReal)
    (e : z = Yv (iblk1 V c 3 t) (iblk1 V c 4 t) x7 x8 (y 0).val (y 1).val)
    (hw : ∀ y : S1024x2304.Idx, x7 y = Wt (iblk1 V c 0 t) (iblk1 V c 1 t) (y 0).val (y 1).val)
    (hs : ∀ y : S1024x128.Idx, x8 y = at2 (n := 8) (m := 128) (iblk1 V c 2 t) ((y 0).val / 128) ((y 0).val % 128)) :
    z = Yg (C1 V c) (G1 V c) (R1 V c) (S1 V c) (XP1 V c) (y 0).val (1024 * t.val + (y 1).val) := by
  refine e.trans ?_
  have hj : (y 1).val < 1024 := (y 1).isLt
  have hs0 : (y 0).val < 1536 := (y 0).isLt
  have f5 : ∀ r d, ∃ a : ℝ, at2 (n := 1536) (m := 2304) (iblk1 V c 4 t) r d = a := at2_ind (n := 1536) (m := 2304) _ fun y => (blk1_4 V c t y).symm ▸ hP _ _
  generalize (y 1).val = j at hj ⊢
  generalize (y 0).val = s at hs0 ⊢
  refine (Yv_eq (iblk1 V c 3 t) (iblk1 V c 4 t) x7 x8 (fun r q => WtG (C1 V c) (G1 V c) (1024 * t.val + r) q) (fun r => at2 (R1 V c) (8 * t.val + r / 128) (r % 128))
    (fun r q hr hq => (at2_blk (n := 1024) (m := 2304) x7 _ hw r q hr hq).trans (Wt_blk V c t r q hr hq))
    (fun r l hr hl => (at2_blk (n := 1024) (m := 128) x8 (fun r l => at2 (n := 8) (m := 128) (iblk1 V c 2 t) (r / 128) (r % 128)) hs r l hr hl).trans
      (at2_blk (n := 8) (m := 128) (iblk1 V c 2 t) (fun r d => at2 (R1 V c) (8 * t.val + r) d) (blk1_2 V c t) _ _ (by omega) (by omega)))
    (fun r q => real_mul (decB_real _) (hG _ _)) (fun r => hR _ _) f5 s j hj).trans ?_
  unfold Yg
  have d1 : (1024 * t.val + j) / 128 = 8 * t.val + j / 128 := by omega
  have d2 : (1024 * t.val + j) % 128 = j % 128 := by omega
  rw [d1, d2]
  refine congrArg₂ (· * ·) (Finset.sum_congr rfl fun h _ => congrArg (· * sgE h.val (j % 128)) (congrArg₂ (· * ·) (Finset.sum_congr rfl fun q _ => congrArg₂ (· * ·) ?_ ?_) ?_)) (congrArg (· * hadScale) ?_)
  · refine congrArg (fun o => WtG (C1 V c) (G1 V c) o q.val) ?_
    omega
  · exact at2_blk (n := 1536) (m := 2304) (iblk1 V c 4 t) (fun r d => at2 (XP1 V c) r d) (blk1_4 V c t) _ _ hs0 q.isLt
  · refine congrArg₂ (at2 (R1 V c)) ?_ ?_ <;> omega
  · exact at2_blk (n := 8) (m := 128) (iblk1 V c 3 t) (fun r d => at2 (S1 V c) (8 * t.val + r) d) (blk1_3 V c t) _ _ (by omega) (by omega)

/-- The block a point of the call leaves. -/
theorem outs1_0 (t : Fin cfg1.N) (y : S1536x1024.Idx) :
    outsAt1 V c t y = Yg (C1 V c) (G1 V c) (R1 V c) (S1 V c) (XP1 V c) (y 0).val (1024 * t.val + (y 1).val) := by
  have e := out1_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t) (iblk1 V c 2 t) (iblk1 V c 3 t) (iblk1 V c 4 t) y
  have hw := wt_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t)
  have hs := rs_apply c (ms1_2 t) (hs1_2 t) (iblk1 V c 2 t)
  have e1 : outsAt1 V c t y = out1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t) (iblk1 V c 2 t) (iblk1 V c 3 t) (iblk1 V c 4 t) y := by
    unfold outsAt1
    rfl
  exact out_step V c hG hR hP t y _ _ _ (e1.trans e) hw hs

theorem arr1_5 : (dat1 V c).arrAt 5 cfg1.N = (fun i : S1536x9216.Idx => Yg (C1 V c) (G1 V c) (R1 V c) (S1 V c) (XP1 V c) (i 0).val (i 1).val) := by
  refine (dat1 V c).arrAt_eq_of_covers 5 _ (by decide +kernel) fun t hf y => ?_
  rw [after1_5]
  blk_simp
  refine (outs1_0 V c hG hR hP t y).trans ?_
  rw [ix1_5 t]
  refine congrArg₂ (Yg (C1 V c) (G1 V c) (R1 V c) (S1 V c) (XP1 V c)) ?_ ?_
  · show (y 0).val = 0 * 1536 + (y 0).val
    omega
  · show 1024 * t.val + (y 1).val = t.val * 1024 + (y 1).val
    omega

end Cert.KernelIdeal.Whole

end
-- ==== Proof.HostValue.lean ====
/- The reshapes between the calls, entry by entry. -/
module

public import proofs.«01_k».proof.Proof.Spec
public import proofs.«01_k».proof.Proof.Run
public import Idealize.ShloMosaic.Lib.StableHlo.Run
public import Idealize.ShloMosaic.Lib.VecWindow

@[expose] public section

set_option maxRecDepth 16384

noncomputable section

namespace Cert.KernelIdeal.Whole

open Cert.KernelIdeal.Gen Cert.Val

open Idealize.ShloMosaic Idealize.ShloMosaic.TcCoe Idealize.ShloMosaic.Tactic Idealize.ShloMosaic.StableHlo

variable (W : Valuation τ sig (Elt Ideal))

theorem host0_v0 : StableHlo.after hostOps0 W (Proc.devRef .tc main_v0) = (shapeCast S1536x2304 (W (Proc.devRef .tc main_arg0) : S6x256x2304.Idx → EReal) shapeCasts_S6x256x2304_S1536x2304 : S1536x2304.Idx → EReal) := by
  simp only [hostOps0]
  after_results_simp <;> rfl

theorem host0_v1 : StableHlo.after hostOps0 W (Proc.devRef .tc main_v1) = (shapeCast S1x2304 (W (Proc.devRef .tc main_arg4) : S2304.Idx → EReal) shapeCasts_S2304_S1x2304 : S1x2304.Idx → EReal) := by
  simp only [hostOps0]
  after_results_simp <;> rfl

theorem host1_v3 : StableHlo.after hostOps1 W (Proc.devRef .tc main_v3) = (shapeCast S72x128 (W (Proc.devRef .tc main_arg2) : S9216.Idx → EReal) shapeCasts_S9216_S72x128 : S72x128.Idx → EReal) := by
  simp only [hostOps1]
  after_results_simp <;> rfl

theorem host1_v4 : StableHlo.after hostOps1 W (Proc.devRef .tc main_v4) = (shapeCast S72x128 (W (Proc.devRef .tc main_arg5) : S9216.Idx → EReal) shapeCasts_S9216_S72x128 : S72x128.Idx → EReal) := by
  simp only [hostOps1]
  after_results_simp <;> rfl

theorem host2_v6 : StableHlo.after hostOps2 W (Proc.devRef .tc main_v6) = (shapeCast S6x256x9216 (W (Proc.devRef .tc main_v5) : S1536x9216.Idx → EReal) shapeCasts_S1536x9216_S6x256x9216 : S6x256x9216.Idx → EReal) := by
  simp only [hostOps2]
  after_results_simp <;> rfl

theorem host2_v7 : StableHlo.after hostOps2 W (Proc.devRef .tc main_v7) = (shapeCast S6x256x2304 (W (Proc.devRef .tc main_v2_0) : S1536x2304.Idx → EReal) shapeCasts_S1536x2304_S6x256x2304 : S6x256x2304.Idx → EReal) := by
  simp only [hostOps2]
  after_results_simp <;> rfl

theorem at2_of_lt {n m : ℕ} (v : (⟨2, ![n, m]⟩ : Shape).Idx → EReal) (r d : ℕ) (hr : r < n) (hd : d < m) : at2 v r d = v (ix2 ⟨r, hr⟩ ⟨d, hd⟩) :=
  dif_pos ⟨hr, hd⟩

/-- The tokens as a matrix. -/
theorem cast_tokens (x : S6x256x2304.Idx → EReal) (b : Fin 6) (s : Fin 256) (d : Fin 2304) :
    at2 (shapeCast S1536x2304 x shapeCasts_S6x256x2304_S1536x2304 : S1536x2304.Idx → EReal) (b.val * 256 + s.val) d.val = x (ix3 b s d) := by
  rw [at2_of_lt _ _ _ (by omega) d.isLt]
  refine shapeCast_apply x _ _ _ ?_
  rw [Shape.rowMajor_val_three, Shape.rowMajor_val_two]
  rfl

/-- The signs as a row. -/
theorem cast_signs (x : S2304.Idx → EReal) (d : Fin 2304) :
    at2 (shapeCast S1x2304 x shapeCasts_S2304_S1x2304 : S1x2304.Idx → EReal) 0 d.val = x (ix1 d) := by
  rw [at2_of_lt _ _ _ (by omega) d.isLt]
  refine shapeCast_apply x _ _ _ ?_
  rw [Shape.rowMajor_val_one, Shape.rowMajor_val_two]
  show d.val = 0 * 2304 + d.val
  omega

/-- The vectors of the output rows, 128 to a row. -/
theorem cast_rows (x : S9216.Idx → EReal) (g h : ℕ) (hg : g < 72) (hh : h < 128) :
    at2 (shapeCast S72x128 x shapeCasts_S9216_S72x128 : S72x128.Idx → EReal) g h = x (ix1 ⟨g * 128 + h, by omega⟩) := by
  rw [at2_of_lt _ _ _ hg hh]
  refine shapeCast_apply x _ _ _ ?_
  rw [Shape.rowMajor_val_one, Shape.rowMajor_val_two]
  rfl

/-- The outputs with their batch. -/
theorem cast_out (x : S1536x9216.Idx → EReal) (b : Fin 6) (s : Fin 256) (o : Fin 9216) :
    (shapeCast S6x256x9216 x shapeCasts_S1536x9216_S6x256x9216 : S6x256x9216.Idx → EReal) (ix3 b s o) = x (ix2 ⟨b.val * 256 + s.val, by omega⟩ o) := by
  refine shapeCast_apply x _ _ _ ?_
  rw [Shape.rowMajor_val_three, Shape.rowMajor_val_two]
  show (b.val * 256 + s.val) * 9216 + o.val = (b.val * 256 + s.val) * 9216 + o.val
  rfl

theorem cast_xr (x : S1536x2304.Idx → EReal) (b : Fin 6) (s : Fin 256) (d : Fin 2304) :
    (shapeCast S6x256x2304 x shapeCasts_S1536x2304_S6x256x2304 : S6x256x2304.Idx → EReal) (ix3 b s d) = x (ix2 ⟨b.val * 256 + s.val, by omega⟩ d) := by
  refine shapeCast_apply x _ _ _ ?_
  rw [Shape.rowMajor_val_three, Shape.rowMajor_val_two]
  rfl

/-- A property of every entry passes through a reshape. -/
theorem cast_real {s t : Shape} (x : s.Idx → EReal) (hst : s.ShapeCasts t) (h : ∀ y, ∃ a : ℝ, x y = a) (y : t.Idx) : ∃ a : ℝ, (shapeCast t x hst : t.Idx → EReal) y = a :=
  h _

end Cert.KernelIdeal.Whole

end
-- ==== Proof.RefStages.lean ====
/- The reference's composed term in stages: the words, their states, the weights, the rotated tokens and the output. -/
module

public import proofs.«01_k».proof.Proof.Gen.ReferenceIdeal.Run

@[expose] public section

set_option maxRecDepth 16384

noncomputable section

namespace Cert.ReferenceIdeal.Stages

open Cert.ReferenceIdeal Cert.ReferenceIdeal.Gen Idealize.ShloMosaic Idealize.ShloMosaic.TcCoe

variable {F : FTy → Type} [FloatOps F]

/-- The code words, widened, by row, trellis and word. -/
def words (a1 : IVec S9216x288 16) : IVec S9216x9x32 32 := shapeCast _ (extui 32 a1 natLt_16_32) shapeCasts_S9216x288_S9216x9x32
/-- The next word of the trellis, around its end. -/
def next (W : IVec S9216x9x32 32) : IVec S9216x9x32 32 := (concatenate S9216x9x32 2 [⟨S9216x9x31, (extractStridedSlice S9216x9x31 ![0, 0, 1] W slices_S9216x9x32_S9216x9x31_0_0_1)⟩, ⟨S9216x9x1, (extractStridedSlice S9216x9x1 ![0, 0, 0] W slices_S9216x9x32_S9216x9x1_0_0_0)⟩] concatenates_S9216x9x31_S9216x9x1_S9216x9x32_d2)
/-- The sixteen bits at every step. -/
def state (W N : IVec S9216x9x32 32) : IVec S9216x9x32x8 32 := (andi (ori (Host.shli (broadcastInDim S9216x9x32x8 ![0, 1, 2, 3] bcast_S9216x9x32x1_S9216x9x32x8_0_1_2_3 (broadcastInDim S9216x9x32x1 ![0, 1, 2] bcast_S9216x9x32_S9216x9x32x1_0_1_2 W)) (broadcastInDim S9216x9x32x8 ![0, 1, 2, 3] bcast_S1x1x1x8_S9216x9x32x8_0_1_2_3 (broadcastInDim S1x1x1x8 ![3] bcast_S8_S1x1x1x8_3 (muli (broadcastInDim S8 ![] bcast_S_S8 (constantI S_ 32 2#32)) (iotaInDim S8 32 0))))) (Host.shrui (broadcastInDim S9216x9x32x8 ![0, 1, 2, 3] bcast_S9216x9x32x1_S9216x9x32x8_0_1_2_3 (broadcastInDim S9216x9x32x1 ![0, 1, 2] bcast_S9216x9x32_S9216x9x32x1_0_1_2 N)) (broadcastInDim S9216x9x32x8 ![0, 1, 2, 3] bcast_S1x1x1x8_S9216x9x32x8_0_1_2_3 (broadcastInDim S1x1x1x8 ![3] bcast_S8_S1x1x1x8_3 (subi (broadcastInDim S8 ![] bcast_S_S8 (constantI S_ 32 16#32)) (muli (broadcastInDim S8 ![] bcast_S_S8 (constantI S_ 32 2#32)) (iotaInDim S8 32 0))))))) (broadcastInDim S9216x9x32x8 ![] bcast_S_S9216x9x32x8 (constantI S_ 32 65535#32)))
/-- One step of the generator, masked and mixed. -/
def mix (S : IVec S9216x9x32x8 32) : IVec S9216x9x32x8 32 := (xori (andi (addi (muli S (broadcastInDim S9216x9x32x8 ![] bcast_S_S9216x9x32x8 (constantI S_ 32 89226354#32))) (broadcastInDim S9216x9x32x8 ![] bcast_S_S9216x9x32x8 (constantI S_ 32 64248484#32))) (broadcastInDim S9216x9x32x8 ![] bcast_S_S9216x9x32x8 (constantI S_ 32 2415890431#32))) (broadcastInDim S9216x9x32x8 ![] bcast_S_S9216x9x32x8 (constantI S_ 32 996162400#32)))
def lowHalf (X : IVec S9216x9x32x8 32) : IVec S9216x9x32x8 32 := andi X (broadcastInDim S9216x9x32x8 ![] bcast_S_S9216x9x32x8 (constantI S_ 32 65535#32))
def highHalf (X : IVec S9216x9x32x8 32) : IVec S9216x9x32x8 32 := Host.shrui X (broadcastInDim S9216x9x32x8 ![] bcast_S_S9216x9x32x8 (constantI S_ 32 16#32))
/-- A half word read as a float16, as the bits of a float32. -/
def wide (LO : IVec S9216x9x32x8 32) : IVec S9216x9x32x8 32 := (ori (ori (Host.shli (Host.shrui LO (broadcastInDim S9216x9x32x8 ![] bcast_S_S9216x9x32x8 (constantI S_ 32 15#32))) (broadcastInDim S9216x9x32x8 ![] bcast_S_S9216x9x32x8 (constantI S_ 32 31#32))) (Host.shli (addi (andi (Host.shrui LO (broadcastInDim S9216x9x32x8 ![] bcast_S_S9216x9x32x8 (constantI S_ 32 10#32))) (broadcastInDim S9216x9x32x8 ![] bcast_S_S9216x9x32x8 (constantI S_ 32 31#32))) (broadcastInDim S9216x9x32x8 ![] bcast_S_S9216x9x32x8 (constantI S_ 32 112#32))) (broadcastInDim S9216x9x32x8 ![] bcast_S_S9216x9x32x8 (constantI S_ 32 23#32)))) (Host.shli (andi LO (broadcastInDim S9216x9x32x8 ![] bcast_S_S9216x9x32x8 (constantI S_ 32 1023#32))) (broadcastInDim S9216x9x32x8 ![] bcast_S_S9216x9x32x8 (constantI S_ 32 13#32))))
/-- The weights, by row, trellis, word and field. -/
def weights4 (L H : IVec S9216x9x32x8 32) (a3 : FVec F S9216x9 .f32) : FVec F S9216x9x32x8 .bf16 := (mulf (truncf .bf16 (addf (bitcastToFloat (F := F) .f32 (wide L)) (bitcastToFloat (F := F) .f32 (wide H))) bitsLt_bf16_f32) (broadcastInDim S9216x9x32x8 ![0, 1, 2, 3] bcast_S9216x9x1x1_S9216x9x32x8_0_1_2_3 (broadcastInDim S9216x9x1x1 ![0, 1] bcast_S9216x9_S9216x9x1x1_0_1 (truncf .bf16 a3 bitsLt_bf16_f32))))
def weights (a1 : IVec S9216x288 16) (a3 : FVec F S9216x9 .f32) : FVec F S9216x2304 .bf16 :=
  shapeCast _ (weights4 (F := F) (lowHalf (mix (state (words a1) (next (words a1))))) (highHalf (mix (state (words a1) (next (words a1))))) a3) shapeCasts_S9216x9x32x8_S9216x2304
/-- The rotation's signs. -/
def signs : FVec F S128x128 .f32 := (sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32))))))
/-- The rotated tokens. -/
def tokens (a0 : FVec F S6x256x2304 .bf16) (a4 : FVec F S2304 .f32) : FVec F S6x256x2304 .bf16 := (truncf .bf16 (shapeCast _ (mulf (Host.dotGeneral dot_S6x256x18x128_S128x128_S6x256x18x128_3_0_012_1_n_n (some .fp32) (shapeCast _ (mulf (extf .f32 a0 bitsLt_bf16_f32) (broadcastInDim S6x256x2304 ![0, 1, 2] bcast_S1x1x2304_S6x256x2304_0_1_2 (broadcastInDim S1x1x2304 ![2] bcast_S2304_S1x1x2304_2 a4))) shapeCasts_S6x256x2304_S6x256x18x128) signs) (broadcastInDim S6x256x18x128 ![] bcast_S_S6x256x18x128 (constant S_ .f32 0x3DB504F3#32))) shapeCasts_S6x256x18x128_S6x256x2304) bitsLt_bf16_f32)
def product (X : FVec F S6x256x2304 .bf16) (WT : FVec F S9216x2304 .bf16) : FVec F S6x256x9216 .f32 := Host.dotGeneral dot_S6x256x2304_S9216x2304_S6x256x9216_2_1_01_0_n_n none X WT
/-- The output, of the product's rows. -/
def rotOut (Y : FVec F S6x256x9216 .f32) (a2 a5 : FVec F S9216 .f32) : FVec F S6x256x9216 .bf16 := truncf .bf16 (mulf (shapeCast _ (mulf (Host.dotGeneral dot_S6x256x72x128_S128x128_S6x256x72x128_3_0_012_1_n_n (some .fp32) (shapeCast _ (mulf Y (broadcastInDim S6x256x9216 ![0, 1, 2] bcast_S1x1x9216_S6x256x9216_0_1_2 (broadcastInDim S1x1x9216 ![2] bcast_S9216_S1x1x9216_2 a2))) shapeCasts_S6x256x9216_S6x256x72x128) signs) (broadcastInDim S6x256x72x128 ![] bcast_S_S6x256x72x128 (constant S_ .f32 0x3DB504F3#32))) shapeCasts_S6x256x72x128_S6x256x9216) (broadcastInDim S6x256x9216 ![0, 1, 2] bcast_S1x1x9216_S6x256x9216_0_1_2 (broadcastInDim S1x1x9216 ![2] bcast_S9216_S1x1x9216_2 a5))) bitsLt_bf16_f32

theorem out_eq (m : (ℓ : Loc nD τ sig) → Buf (Elt F) ℓ) (c : Dev nD) :
    Value.res_main_v114 m c = rotOut (F := F) (product (tokens (m ((c.tc : Thread nD τ).loc main_arg0)) (m ((c.tc : Thread nD τ).loc main_arg4))) (weights (m ((c.tc : Thread nD τ).loc main_arg1)) (m ((c.tc : Thread nD τ).loc main_arg3)))) (m ((c.tc : Thread nD τ).loc main_arg2)) (m ((c.tc : Thread nD τ).loc main_arg5)) := by
  unfold Value.res_main_v114
  rfl

end Cert.ReferenceIdeal.Stages

end
-- ==== Proof.RefBits.lean ====
/- The reference's decoding of a state, on words: its two halves are the bits the kernel computes, and its state is the window's. -/
module

public import Idealize.ShloMosaic.Lib.Pipeline.Value
public import Idealize.ShloMosaic.Lib.Pointwise
public import proofs.«01_k».proof.Proof.DecBits

@[expose] public section

noncomputable section

namespace Cert.Val

open Idealize.ShloMosaic

/-- A 16-bit pattern `sign, exponent, fraction` widened to the bits of a float32. -/
def wideB (h : BitVec 32) : BitVec 32 :=
  (((h >>> 15) <<< 31) ||| ((((h >>> 10) &&& 31#32) + 112#32) <<< 23)) ||| ((h &&& 1023#32) <<< 13)

/-- The masked and flipped state of the generator. -/
def mixB (x : BitVec 32) : BitVec 32 := (x &&& 2415890431#32) ^^^ 996162400#32

/-- The state of a window of two words, as two shifts. -/
def stRB (c n : BitVec 16) (f : ℕ) : BitVec 32 :=
  ((c.zeroExtend 32 <<< (2 * f)) ||| (n.zeroExtend 32 >>> (16 - 2 * f))) &&& 65535#32

theorem wideB_or (h : BitVec 32) (h0 : h >>> 10 &&& 16#32 = 0#32) : wideB h = (((h >>> 15) <<< 31) ||| ((((h >>> 10) &&& 31#32) ||| 112#32) <<< 23)) ||| ((h &&& 1023#32) <<< 13) := by
  unfold wideB
  rw [BitVec.add_eq_or_of_and_eq_zero]
  rw [BitVec.and_assoc]
  exact h0

theorem hi_bits (x : BitVec 32) : wideB (mixB x >>> 16) = (x.sshiftRight 3 &&& 2181029888#32) ^^^ 1064042496#32 := by
  rw [wideB_or _ (by
    unfold mixB
    apply BitVec.eq_of_getLsbD_eq
    intro i hi
    simp only [BitVec.getLsbD_and, BitVec.getLsbD_xor, BitVec.getLsbD_ushiftRight]
    interval_cases i <;> simp)]
  unfold mixB
  apply BitVec.eq_of_getLsbD_eq
  intro i hi
  simp only [BitVec.getLsbD_and, BitVec.getLsbD_or, BitVec.getLsbD_xor, BitVec.getLsbD_shiftLeft, BitVec.getLsbD_ushiftRight, BitVec.getLsbD_sshiftRight, BitVec.msb_eq_getLsbD_last]
  interval_cases i <;> simp

theorem lo_bits (x : BitVec 32) : wideB (mixB x &&& 65535#32) = ((x <<< 16).sshiftRight 3 &&& 2181029888#32) ^^^ 1064042496#32 := by
  rw [wideB_or _ (by
    unfold mixB
    apply BitVec.eq_of_getLsbD_eq
    intro i hi
    simp only [BitVec.getLsbD_and, BitVec.getLsbD_xor, BitVec.getLsbD_ushiftRight]
    interval_cases i <;> simp)]
  unfold mixB
  apply BitVec.eq_of_getLsbD_eq
  intro i hi
  simp only [BitVec.getLsbD_and, BitVec.getLsbD_or, BitVec.getLsbD_xor, BitVec.getLsbD_shiftLeft, BitVec.getLsbD_ushiftRight, BitVec.getLsbD_sshiftRight, BitVec.msb_eq_getLsbD_last]
  interval_cases i <;> simp

theorem st_bits (c n : BitVec 16) (f : Fin 8) : stRB c n f.val = ((c ++ n) <<< (2 * f.val)) >>> 16 := by
  unfold stRB
  apply BitVec.eq_of_getLsbD_eq
  intro i hi
  simp only [BitVec.getLsbD_and, BitVec.getLsbD_or, BitVec.getLsbD_shiftLeft, BitVec.getLsbD_ushiftRight, BitVec.getLsbD_append]
  match f with
  | ⟨0, _⟩ => interval_cases i <;> simp [BitVec.getLsbD_append, BitVec.getElem_append]
  | ⟨1, _⟩ => interval_cases i <;> simp [BitVec.getLsbD_append, BitVec.getElem_append]
  | ⟨2, _⟩ => interval_cases i <;> simp [BitVec.getLsbD_append, BitVec.getElem_append]
  | ⟨3, _⟩ => interval_cases i <;> simp [BitVec.getLsbD_append, BitVec.getElem_append]
  | ⟨4, _⟩ => interval_cases i <;> simp [BitVec.getLsbD_append, BitVec.getElem_append]
  | ⟨5, _⟩ => interval_cases i <;> simp [BitVec.getLsbD_append, BitVec.getElem_append]
  | ⟨6, _⟩ => interval_cases i <;> simp [BitVec.getLsbD_append, BitVec.getElem_append]
  | ⟨7, _⟩ => interval_cases i <;> simp [BitVec.getLsbD_append, BitVec.getElem_append]

theorem halfB_eq (v : BitVec 32) : halfB v = (v.sshiftRight 3 &&& 2181029888#32) ^^^ 1064042496#32 := rfl
theorem halfB_hi (x : BitVec 32) : halfB x = wideB (mixB x >>> 16) := by rw [hi_bits, halfB_eq]
theorem shl16 (x : BitVec 32) : IntOp.shli .vector x 16#32 = x <<< 16 := rfl
theorem halfB_lo (x : BitVec 32) : halfB (IntOp.shli .vector x 16#32) = wideB (mixB x &&& 65535#32) := by rw [lo_bits, halfB_eq, shl16]

/-- The decoded value of a state, as the reference spells it. -/
theorem decB_eq (s : BitVec 32) : decB s = Ideal.ofBits FTy.f32 (wideB (mixB (stepB s) &&& 65535#32)) + Ideal.ofBits FTy.f32 (wideB (mixB (stepB s) >>> 16)) := by
  unfold decB
  rw [halfB_lo, halfB_hi, add_comm]

theorem stB_eq (c n : BitVec 16) (f : Fin 8) : stB c n f.val = stRB c n f.val := by
  rw [st_bits]
  match f with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Cert.Val

end
-- ==== Proof.RefValue.lean ====
/- The reference's stages over the extended reals, by coordinates. -/
module

public import proofs.«01_k».proof.Proof.RefStages
public import proofs.«01_k».proof.Proof.RefBits
public import proofs.«01_k».proof.Proof.SignBits
public import proofs.«01_k».proof.Proof.Concat
public import proofs.«01_k».proof.Proof.TripValue
public import Idealize.ShloMosaic.Lib.VecWindow

@[expose] public section

set_option maxRecDepth 16384

noncomputable section

namespace Cert.ReferenceIdeal.Stages

open Cert.ReferenceIdeal Cert.ReferenceIdeal.Gen Cert.Val Idealize.ShloMosaic Idealize.ShloMosaic.TcCoe Idealize.ShloMosaic.Tactic
open Cert.KernelIdeal.Whole (hadScale)

/-- Narrowing changes no extended real. -/
theorem truncf_at {s : Shape} (x : FVec Ideal s .f32) (i : s.Idx) : truncf (F := Ideal) .bf16 x bitsLt_bf16_f32 i = x i := rfl

theorem words_apply (a1 : IVec S9216x288 16) (o : Fin 9216) (t : Fin 9) (w : Fin 32) :
    words a1 (ix3 o t w) = (a1 (ix2 o ⟨t.val * 32 + w.val, by omega⟩)).setWidth 32 := by
  unfold words
  refine (shapeCast_apply _ _ _ (ix2 o ⟨t.val * 32 + w.val, by omega⟩) ?_).trans rfl
  rw [Shape.rowMajor_val_two, Shape.rowMajor_val_three]
  show o.val * 288 + (t.val * 32 + w.val) = (o.val * 9 + t.val) * 32 + w.val
  omega

theorem state_apply (W N : IVec S9216x9x32 32) (o : Fin 9216) (t : Fin 9) (w : Fin 32) (f : Fin 8) (a b : BitVec 16) (ha : W (ix3 o t w) = a.setWidth 32) (hb : N (ix3 o t w) = b.setWidth 32) :
    state W N (ix4 o t w f) = stRB a b f.val := by
  unfold state
  pointwise
  rw [ha, hb]
  fin_cases f <;> rfl

theorem mix_apply (S : IVec S9216x9x32x8 32) (i : S9216x9x32x8.Idx) : mix S i = mixB (stepB (S i)) := rfl
theorem lowHalf_apply (S : IVec S9216x9x32x8 32) (i : S9216x9x32x8.Idx) : lowHalf S i = S i &&& 65535#32 := rfl
theorem highHalf_apply (S : IVec S9216x9x32x8 32) (i : S9216x9x32x8.Idx) : highHalf S i = S i >>> 16 := rfl
theorem wide_apply (S : IVec S9216x9x32x8 32) (i : S9216x9x32x8.Idx) : wide S i = wideB (S i) := rfl

theorem weights4_apply (L H : IVec S9216x9x32x8 32) (a3 : FVec Ideal S9216x9 .f32) (o : Fin 9216) (t : Fin 9) (w : Fin 32) (f : Fin 8) :
    weights4 (F := Ideal) L H a3 (ix4 o t w f) = (Ideal.ofBits .f32 (wide L (ix4 o t w f)) + Ideal.ofBits .f32 (wide H (ix4 o t w f))) * a3 (ix2 o t) := by
  unfold weights4
  pointwise

theorem signs_apply (j i : Fin 128) : signs (F := Ideal) (ix2 j i) = sgE j.val i.val := by
  unfold sgE
  rw [← sign_bits _ _ j.isLt i.isLt]
  unfold signs
  pointwise
  rfl

theorem product_apply (X : FVec Ideal S6x256x2304 .bf16) (WT : FVec Ideal S9216x2304 .bf16) (b : Fin 6) (s : Fin 256) (o : Fin 9216) :
    product (F := Ideal) X WT (ix3 b s o) = ∑ q : Fin 2304, X (ix3 b s q) * WT (ix2 o q) := by
  unfold product
  pointwise

theorem tokens_apply (a0 : FVec Ideal S6x256x2304 .bf16) (a4 : FVec Ideal S2304 .f32) (b : Fin 6) (s : Fin 256) (d : Fin 2304) :
    tokens (F := Ideal) a0 a4 (ix3 b s d)
      = (∑ h : Fin 128, a0 (ix3 b s ⟨d.val / 128 * 128 + h.val, by omega⟩) * a4 (ix1 ⟨d.val / 128 * 128 + h.val, by omega⟩) * sgE h.val (d.val % 128)) * hadScale := by
  unfold tokens
  refine (truncf_at _ _).trans ?_
  refine (shapeCast_apply _ _ _ (ix4 b s (⟨d.val / 128, by omega⟩ : Fin 18) (⟨d.val % 128, Nat.mod_lt _ (by decide)⟩ : Fin 128)) ?_).trans ?_
  · rw [Shape.rowMajor_val_four, Shape.rowMajor_val_three]
    show ((b.val * 256 + s.val) * 18 + d.val / 128) * 128 + d.val % 128 = (b.val * 256 + s.val) * 2304 + d.val
    omega
  pointwise
  refine congrArg (· * hadScale) (Finset.sum_congr rfl fun h _ => ?_)
  rw [signs_apply]

theorem rotOut_apply (Y : FVec Ideal S6x256x9216 .f32) (a2 a5 : FVec Ideal S9216 .f32) (b : Fin 6) (s : Fin 256) (o : Fin 9216) :
    rotOut (F := Ideal) Y a2 a5 (ix3 b s o)
      = (∑ h : Fin 128, Y (ix3 b s ⟨o.val / 128 * 128 + h.val, by omega⟩) * a2 (ix1 ⟨o.val / 128 * 128 + h.val, by omega⟩) * sgE h.val (o.val % 128)) * hadScale * a5 (ix1 o) := by
  unfold rotOut
  refine (truncf_at _ _).trans ?_
  refine congrArg₂ (fun x y : EReal => x * y) (?_ : shapeCast S6x256x9216 _ shapeCasts_S6x256x72x128_S6x256x9216 (ix3 b s o) = _) (?_ : (broadcastInDim S6x256x9216 _ bcast_S1x1x9216_S6x256x9216_0_1_2 _ : FVec Ideal S6x256x9216 .f32) (ix3 b s o) = _)
  · refine (shapeCast_apply _ _ _ (ix4 b s (⟨o.val / 128, by omega⟩ : Fin 72) (⟨o.val % 128, Nat.mod_lt _ (by decide)⟩ : Fin 128)) ?_).trans ?_
    · rw [Shape.rowMajor_val_four, Shape.rowMajor_val_three]
      show ((b.val * 256 + s.val) * 72 + o.val / 128) * 128 + o.val % 128 = (b.val * 256 + s.val) * 9216 + o.val
      omega
    pointwise
    refine congrArg (· * hadScale) (Finset.sum_congr rfl fun h _ => ?_)
    rw [signs_apply]
  · pointwise

theorem next_apply (W : IVec S9216x9x32 32) (o : Fin 9216) (t : Fin 9) (w : Fin 32) : next W (ix3 o t w) = W (ix3 o t ⟨(w.val + 1) % 32, Nat.mod_lt _ (by decide)⟩) := by
  unfold next
  refine concatenate_of (t := S9216x9x32) 2 [⟨S9216x9x31, (extractStridedSlice S9216x9x31 ![0, 0, 1] W slices_S9216x9x32_S9216x9x31_0_0_1)⟩, ⟨S9216x9x1, (extractStridedSlice S9216x9x1 ![0, 0, 0] W slices_S9216x9x32_S9216x9x1_0_0_0)⟩] concatenates_S9216x9x31_S9216x9x1_S9216x9x32_d2 (ix3 o t w) _ fun k p hp hr i h1 h2 => ?_
  match k, hp with
  | 0, hp =>
    obtain rfl := Option.some.inj hp
    have e0 : (i 0).val = o.val := h2 0 (by decide)
    have e1 : (i 1).val = t.val := h2 1 (by decide)
    have e2 : 0 + (i 2).val = w.val := h1
    have b2 : (i 2).val < 31 := (i 2).isLt
    refine congrArg W (funext fun a => Fin.ext ?_)
    match a with
    | ⟨0, _⟩ =>
      show 0 + (i 0).val = o.val
      omega
    | ⟨1, _⟩ =>
      show 0 + (i 1).val = t.val
      omega
    | ⟨2, _⟩ =>
      show 1 + (i 2).val = (w.val + 1) % 32
      omega
  | 1, hp =>
    obtain rfl := Option.some.inj hp
    have e0 : (i 0).val = o.val := h2 0 (by decide)
    have e1 : (i 1).val = t.val := h2 1 (by decide)
    have e2 : 31 + (i 2).val = w.val := h1
    have b2 : (i 2).val < 1 := (i 2).isLt
    refine congrArg W (funext fun a => Fin.ext ?_)
    match a with
    | ⟨0, _⟩ =>
      show 0 + (i 0).val = o.val
      omega
    | ⟨1, _⟩ =>
      show 0 + (i 1).val = t.val
      omega
    | ⟨2, _⟩ =>
      show 0 + (i 2).val = (w.val + 1) % 32
      omega
  | k + 2, hp => exact absurd hp (by simp)

/-- The weight of output row `o`, trellis `t`, word `w`, field `f`. -/
def Wg (a1 : IVec S9216x288 16) (a3 : S9216x9.Idx → EReal) (o t w f : ℕ) : EReal :=
  decB (stB (atB a1 o (t * 32 + w)) (atB a1 o (t * 32 + (w + 1) % 32)) f) * at2 a3 o t

theorem weights_apply (a1 : IVec S9216x288 16) (a3 : FVec Ideal S9216x9 .f32) (o : Fin 9216) (d : Fin 2304) :
    weights (F := Ideal) a1 a3 (ix2 o d) = Wg a1 a3 o.val (d.val / 256) (d.val % 256 / 8) (d.val % 8) := by
  unfold weights
  refine (shapeCast_apply _ _ _ (ix4 o (⟨d.val / 256, by omega⟩ : Fin 9) (⟨d.val % 256 / 8, by omega⟩ : Fin 32) (⟨d.val % 8, by omega⟩ : Fin 8)) ?_).trans ?_
  · rw [Shape.rowMajor_val_four, Shape.rowMajor_val_two]
    show ((o.val * 9 + d.val / 256) * 32 + d.val % 256 / 8) * 8 + d.val % 8 = o.val * 2304 + d.val
    omega
  refine (weights4_apply _ _ _ _ _ _ _).trans ?_
  unfold Wg
  refine congrArg₂ (fun x y : EReal => x * y) ?_ (eq_at2 (n := 9216) (m := 9) a3 _)
  rw [decB_eq, wide_apply, wide_apply, lowHalf_apply, highHalf_apply, mix_apply,
    state_apply _ _ o _ _ _ _ _ (words_apply a1 o _ _) ((next_apply _ o _ _).trans (words_apply a1 o _ _)), ← stB_eq]
  rw [eq_atB (n := 9216) (m := 288) a1, eq_atB (n := 9216) (m := 288) a1 (ix2 o _)]
  rfl

end Cert.ReferenceIdeal.Stages

end
-- ==== Proof.Reindex.lean ====
/- The second call's order of the columns is a rearrangement of the first's. -/
module

public import proofs.«01_k».proof.Proof.RotValue
public import proofs.«01_k».proof.Proof.DecodeValue
public import proofs.«01_k».proof.Proof.RefValue

@[expose] public section

noncomputable section

namespace Cert.Val

open Idealize.ShloMosaic KernelIdeal.Whole

/-- The place of a column in the second call's order. -/
def dstCol (d : ℕ) : ℕ :=
  if d < 2048 then d / 256 / 4 * 1024 + d % 8 * 128 + d / 256 % 4 * 32 + d % 256 / 8 else 2048 + d % 8 * 32 + d % 256 / 8

theorem srcCol_facts : ∀ q : Fin 2304, srcCol q.val < 2304 ∧ dstCol q.val < 2304 ∧ dstCol (srcCol q.val) = q.val ∧ srcCol (dstCol q.val) = q.val
    ∧ colT (q.val / 128) (q.val % 128) = srcCol q.val / 256 ∧ q.val % 128 % 32 = srcCol q.val % 256 / 8 ∧ colF (q.val / 128) (q.val % 128) = srcCol q.val % 8 := by
  decide +kernel

/-- A sum over the columns, in either order. -/
theorem sum_srcCol (f : ℕ → EReal) : (∑ q : Fin 2304, f (srcCol q.val)) = ∑ d : Fin 2304, f d.val :=
  Finset.sum_nbij' (fun q : Fin 2304 => ⟨srcCol q.val, (srcCol_facts q).1⟩) (fun d : Fin 2304 => ⟨dstCol d.val, (srcCol_facts d).2.1⟩)
    (fun _ _ => Finset.mem_univ _) (fun _ _ => Finset.mem_univ _) (fun q _ => Fin.ext (srcCol_facts q).2.2.1) (fun d _ => Fin.ext (srcCol_facts d).2.2.2.1)
    (fun _ _ => rfl)

end Cert.Val

end
-- ==== Proof.KernelValue.lean ====
/- The kernel's two results are the reference's, on finite arguments. -/
module

public import proofs.«01_k».proof.Proof.ArrOut
public import proofs.«01_k».proof.Proof.HostValue
public import proofs.«01_k».proof.Proof.Reindex

@[expose] public section

set_option maxRecDepth 16384

noncomputable section

namespace Cert.KernelIdeal.Whole

open Cert.KernelIdeal.Gen Cert.Val
open Cert.ReferenceIdeal.Stages (tokens product weights rotOut Wg tokens_apply product_apply weights_apply rotOut_apply)

open Idealize.ShloMosaic Idealize.ShloMosaic.TcCoe Idealize.ShloMosaic.Tactic Idealize.ShloMosaic.StableHlo

theorem sum_reorder (a : Fin 2304 → EReal) (f : ℕ → EReal) (g : Fin 2304 → EReal) (h1 : ∀ q, a q = f (srcCol q.val)) (h2 : ∀ d, f d.val = g d) :
    (∑ q, a q) = ∑ d, g d :=
  (Finset.sum_congr rfl fun q _ => h1 q).trans ((sum_srcCol f).trans (Finset.sum_congr rfl fun d _ => h2 d))

attribute [local irreducible] tokens product weights rotOut

/-- A decoded weight in the second call's order is the reference's at the column it came from. -/
theorem WtG_eq (C : S9216x288.Idx → BitVec 16) (G : S9216x9.Idx → EReal) (o : ℕ) (q : Fin 2304) :
    WtG C G o q.val = Wg C G o (srcCol q.val / 256) (srcCol q.val % 256 / 8) (srcCol q.val % 8) := by
  obtain ⟨-, -, -, -, e1, e2, e3⟩ := srcCol_facts q
  unfold WtG Wg
  rw [e1, e2, e3]

/-- The first result's entry: the rotated token, of the arguments. -/
theorem XRg_eq (x : S6x256x2304.Idx → EReal) (u : S2304.Idx → EReal) (b : Fin 6) (s : Fin 256) (d : Fin 2304) :
    XRg (shapeCast S1536x2304 x shapeCasts_S6x256x2304_S1536x2304) (shapeCast S1x2304 u shapeCasts_S2304_S1x2304) (b.val * 256 + s.val) d.val
      = tokens (F := Ideal) x u (ix3 b s d) := by
  refine Eq.trans ?_ (tokens_apply x u b s d).symm
  refine congrArg (· * hadScale) (Finset.sum_congr rfl fun h _ => ?_)
  have e1 := cast_tokens x b s ⟨d.val / 128 * 128 + h.val, by omega⟩
  have e2 := cast_signs u ⟨d.val / 128 * 128 + h.val, by omega⟩
  exact congrArg (· * sgE h.val (d.val % 128)) (congrArg₂ (· * ·) e1 e2)

/-- The second result's entry, of the arguments. -/
theorem Yg_eq (x : S6x256x2304.Idx → EReal) (u : S2304.Idx → EReal) (C : S9216x288.Idx → BitVec 16) (G : S9216x9.Idx → EReal) (rs sv : S9216.Idx → EReal)
    (P : S1536x2304.Idx → EReal)
    (hP : P = fun i => XRg (shapeCast S1536x2304 x shapeCasts_S6x256x2304_S1536x2304) (shapeCast S1x2304 u shapeCasts_S2304_S1x2304) (i 0).val (srcCol (i 1).val))
    (b : Fin 6) (s : Fin 256) (o : Fin 9216) :
    Yg C G (shapeCast S72x128 rs shapeCasts_S9216_S72x128) (shapeCast S72x128 sv shapeCasts_S9216_S72x128) P (b.val * 256 + s.val) o.val
      = rotOut (F := Ideal) (product (tokens x u) (weights C G)) rs sv (ix3 b s o) := by
  refine Eq.trans ?_ (rotOut_apply (product (tokens x u) (weights C G)) rs sv b s o).symm
  unfold Yg
  have eS := cast_rows sv (o.val / 128) (o.val % 128) (by omega) (by omega)
  have eo : (⟨o.val / 128 * 128 + o.val % 128, by omega⟩ : Fin 9216) = o := Fin.ext (by show o.val / 128 * 128 + o.val % 128 = o.val; omega)
  rw [eo] at eS
  rw [eS, mul_comm (sv (ix1 o)) hadScale, ← mul_assoc]
  refine congrArg (· * sv (ix1 o)) (congrArg (· * hadScale) (Finset.sum_congr rfl fun h _ => congrArg (· * sgE h.val (o.val % 128)) (congrArg₂ (· * ·) ?_ ?_)))
  · refine Eq.trans ?_ (product_apply (tokens x u) (weights C G) b s ⟨o.val / 128 * 128 + h.val, by omega⟩).symm
    have eq : ∀ q : Fin 2304, WtG C G (o.val / 128 * 128 + h.val) q.val * at2 P (b.val * 256 + s.val) q.val
        = (fun d => Wg C G (o.val / 128 * 128 + h.val) (d / 256) (d % 256 / 8) (d % 8)
          * XRg (shapeCast S1536x2304 x shapeCasts_S6x256x2304_S1536x2304) (shapeCast S1x2304 u shapeCasts_S2304_S1x2304) (b.val * 256 + s.val) d) (srcCol q.val) := by
      intro q
      rw [WtG_eq, at2_of_lt _ _ _ (by omega) q.isLt, hP]
      rfl
    have key : ∀ d : Fin 2304, Wg C G (o.val / 128 * 128 + h.val) (d.val / 256) (d.val % 256 / 8) (d.val % 8)
          * XRg (shapeCast S1536x2304 x shapeCasts_S6x256x2304_S1536x2304) (shapeCast S1x2304 u shapeCasts_S2304_S1x2304) (b.val * 256 + s.val) d.val
        = tokens (F := Ideal) x u (ix3 b s d) * weights (F := Ideal) C G (ix2 ⟨o.val / 128 * 128 + h.val, by omega⟩ d) := fun d =>
      (mul_comm _ _).trans (congrArg₂ (fun a b : EReal => a * b) (XRg_eq x u b s d) (weights_apply C G ⟨o.val / 128 * 128 + h.val, by omega⟩ d).symm)
    exact sum_reorder _ (fun d => Wg C G (o.val / 128 * 128 + h.val) (d / 256) (d % 256 / 8) (d % 8)
          * XRg (shapeCast S1536x2304 x shapeCasts_S6x256x2304_S1536x2304) (shapeCast S1x2304 u shapeCasts_S2304_S1x2304) (b.val * 256 + s.val) d) _ eq key
  · exact cast_rows rs (o.val / 128) h.val (by omega) h.isLt

end Cert.KernelIdeal.Whole

end
-- ==== Proof.Final.lean ====
/- The kernel's run with its two results at the reference's terms of the arguments. -/
module

public import proofs.«01_k».proof.Proof.KernelValue

@[expose] public section

set_option maxRecDepth 16384

noncomputable section

namespace Cert.KernelIdeal.Whole

open Cert.KernelIdeal.Gen Cert.Val
open Cert.ReferenceIdeal.Stages (tokens product weights rotOut)

open Idealize.ShloMosaic Idealize.ShloMosaic.TcCoe Idealize.ShloMosaic.Tactic Idealize.ShloMosaic.StableHlo

attribute [local irreducible] tokens product weights rotOut

variable (m : (ℓ : Loc nD τ sig) → Buf (Elt Ideal) ℓ) (ρ : Dev nD → PrngReg) (c : Dev nD)

/-- The arguments at launch. -/
def A0 : S6x256x2304.Idx → EReal := m ((c : Thread nD τ).loc main_arg0)
def A1 : S9216x288.Idx → BitVec 16 := m ((c : Thread nD τ).loc main_arg1)
def A2 : S9216.Idx → EReal := m ((c : Thread nD τ).loc main_arg2)
def A3 : S9216x9.Idx → EReal := m ((c : Thread nD τ).loc main_arg3)
def A4 : S2304.Idx → EReal := m ((c : Thread nD τ).loc main_arg4)
def A5 : S9216.Idx → EReal := m ((c : Thread nD τ).loc main_arg5)

/-- What the calls are entered with, of the arguments. -/
theorem X0_eq : X0 (V1 m ρ) c = shapeCast S1536x2304 (A0 m c) shapeCasts_S6x256x2304_S1536x2304 := host0_v0 (W0 m ρ c)
theorem U0_eq : U0 (V1 m ρ) c = shapeCast S1x2304 (A4 m c) shapeCasts_S2304_S1x2304 := host0_v1 (W0 m ρ c)
theorem C1_eq : C1 (V3 m ρ) c = A1 m c := W3_args m ρ c main_arg1 (by decide)
theorem G1_eq : G1 (V3 m ρ) c = A3 m c := W3_args m ρ c main_arg3 (by decide)
theorem R1_eq : R1 (V3 m ρ) c = shapeCast S72x128 (A2 m c) shapeCasts_S9216_S72x128 :=
  (host1_v3 (W2 m ρ c)).trans (congrArg (fun v : S9216.Idx → EReal => (shapeCast S72x128 v shapeCasts_S9216_S72x128 : S72x128.Idx → EReal)) (W2_args m ρ c main_arg2 (by decide)))
theorem S1_eq : S1 (V3 m ρ) c = shapeCast S72x128 (A5 m c) shapeCasts_S9216_S72x128 :=
  (host1_v4 (W2 m ρ c)).trans (congrArg (fun v : S9216.Idx → EReal => (shapeCast S72x128 v shapeCasts_S9216_S72x128 : S72x128.Idx → EReal)) (W2_args m ρ c main_arg5 (by decide)))

variable (h0 : ∀ y, ∃ a : ℝ, A0 m c y = a) (h2 : ∀ y, ∃ a : ℝ, A2 m c y = a) (h3 : ∀ y, ∃ a : ℝ, A3 m c y = a) (h4 : ∀ y, ∃ a : ℝ, A4 m c y = a)

include h0 in
theorem X0_real : ∀ r d, ∃ a : ℝ, at2 (X0 (V1 m ρ) c) r d = a :=
  at2_ind (n := 1536) (m := 2304) _ fun y => (congrFun (X0_eq m ρ c) y).symm ▸ cast_real (A0 m c) _ h0 y

include h4 in
theorem U0_real : ∀ r d, ∃ a : ℝ, at2 (U0 (V1 m ρ) c) r d = a :=
  at2_ind (n := 1) (m := 2304) _ fun y => (congrFun (U0_eq m ρ c) y).symm ▸ cast_real (A4 m c) _ h4 y

include h2 in
theorem R1_real : ∀ r d, ∃ a : ℝ, at2 (R1 (V3 m ρ) c) r d = a :=
  at2_ind (n := 72) (m := 128) _ fun y => (congrFun (R1_eq m ρ c) y).symm ▸ cast_real (A2 m c) _ h2 y

include h3 in
theorem G1_real : ∀ r d, ∃ a : ℝ, at2 (G1 (V3 m ρ) c) r d = a :=
  at2_ind (n := 9216) (m := 9) _ fun y => (congrFun (G1_eq m ρ c) y).symm ▸ h3 y

include h0 h4 in
/-- The rotated, rearranged tokens the second call is entered with. -/
theorem XP1_eq : XP1 (V3 m ρ) c = fun i => XRg (shapeCast S1536x2304 (A0 m c) shapeCasts_S6x256x2304_S1536x2304) (shapeCast S1x2304 (A4 m c) shapeCasts_S2304_S1x2304) (i 0).val (srcCol (i 1).val) := by
  have e := (W3_of m ρ c main_v2_1 (by decide)).trans ((W2_arr m ρ c 3).trans (arr0_3 (V1 m ρ) c (X0_real m ρ c h0) (U0_real m ρ c h4)))
  rw [X0_eq, U0_eq] at e
  exact e

include h0 h4 in
theorem XP1_real : ∀ r d, ∃ a : ℝ, at2 (XP1 (V3 m ρ) c) r d = a := by
  refine at2_ind (n := 1536) (m := 2304) _ fun y => (congrFun (XP1_eq m ρ c h0 h4) y).symm ▸ ?_
  rw [← X0_eq m ρ c, ← U0_eq m ρ c]
  exact XRg_real _ _ (X0_real m ρ c h0) (U0_real m ρ c h4) _ _

include h0 h4 in
/-- The rotated tokens are the reference's. -/
theorem v7_eq : (W5 m ρ c (Proc.devRef .tc main_v7) : S6x256x2304.Idx → EReal) = tokens (F := Ideal) (A0 m c) (A4 m c) := by
  have e : (W4 m ρ c (Proc.devRef .tc main_v2_0) : S1536x2304.Idx → EReal) = fun i => XRg (X0 (V1 m ρ) c) (U0 (V1 m ρ) c) (i 0).val (i 1).val :=
    (W4_of m ρ c main_v2_0 (by decide)).trans ((W3_of m ρ c main_v2_0 (by decide)).trans ((W2_arr m ρ c 2).trans (arr0_2 (V1 m ρ) c (X0_real m ρ c h0) (U0_real m ρ c h4))))
  rw [X0_eq, U0_eq] at e
  refine (host2_v7 (W4 m ρ c)).trans ?_
  rw [e]
  funext y
  have ey : y = ix3 (y 0) (y 1) (y 2) := by
    funext a
    match a with
    | ⟨0, _⟩ => rfl
    | ⟨1, _⟩ => rfl
    | ⟨2, _⟩ => rfl
  refine (congrArg _ ey).trans (Eq.trans ?_ (congrArg (tokens (F := Ideal) (A0 m c) (A4 m c)) ey.symm))
  exact (cast_xr _ (y 0) (y 1) (y 2)).trans (XRg_eq (A0 m c) (A4 m c) (y 0) (y 1) (y 2))

include h0 h2 h3 h4 in
/-- The outputs are the reference's. -/
theorem v6_eq : (W5 m ρ c (Proc.devRef .tc main_v6) : S6x256x9216.Idx → EReal)
    = rotOut (F := Ideal) (product (tokens (A0 m c) (A4 m c)) (weights (A1 m c) (A3 m c))) (A2 m c) (A5 m c) := by
  have e : (W4 m ρ c (Proc.devRef .tc main_v5) : S1536x9216.Idx → EReal)
      = fun i => Yg (C1 (V3 m ρ) c) (G1 (V3 m ρ) c) (R1 (V3 m ρ) c) (S1 (V3 m ρ) c) (XP1 (V3 m ρ) c) (i 0).val (i 1).val :=
    (W4_arr m ρ c 5).trans (arr1_5 (V3 m ρ) c (G1_real m ρ c h3) (R1_real m ρ c h2) (XP1_real m ρ c h0 h4))
  rw [C1_eq, G1_eq, R1_eq, S1_eq] at e
  refine (host2_v6 (W4 m ρ c)).trans ?_
  rw [e]
  funext y
  have ey : y = ix3 (y 0) (y 1) (y 2) := by
    funext a
    match a with
    | ⟨0, _⟩ => rfl
    | ⟨1, _⟩ => rfl
    | ⟨2, _⟩ => rfl
  refine (congrArg _ ey).trans (Eq.trans ?_ (congrArg (rotOut (F := Ideal) (product (tokens (A0 m c) (A4 m c)) (weights (A1 m c) (A3 m c))) (A2 m c) (A5 m c)) ey.symm))
  exact (cast_out _ (y 0) (y 1) (y 2)).trans (Yg_eq (A0 m c) (A4 m c) (A1 m c) (A3 m c) (A2 m c) (A5 m c) _ (XP1_eq m ρ c h0 h4) (y 0) (y 1) (y 2))

end Cert.KernelIdeal.Whole

end
-- ==== Proof.lean ====
module

public import proofs.«01_k».proof.Defs
public import proofs.«01_k».proof.Proof.KRun
public import proofs.«01_k».proof.Proof.Run
public import proofs.«01_k».proof.Proof.Gen.ReferenceIdeal.Run
public import proofs.«01_k».proof.Proof.FinitePre
public import proofs.«01_k».proof.Proof.Final
public import Idealize.ShloMosaic.Lib.Bf16Pair

@[expose] public section

noncomputable section

namespace Cert.Proof

open Idealize.ShloMosaic Idealize.SL.Sem

theorem frame_kernel : Cert.quiescent_Kernel (hKernel := Cert.Kernel.Gen.facts) := fun m g _ => Cert.Kernel.Whole.frame m g

theorem frame_kernelIdeal : Cert.quiescent_KernelIdeal (hKernelIdeal := Cert.KernelIdeal.Gen.facts) := fun m g _ => Cert.KernelIdeal.Whole.frame m g

/-- The reference is host operations alone, and it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

theorem frame_kernelIdeal_finite : Cert.quiescent_KernelIdeal_pre_finite (hKernelIdeal := Cert.KernelIdeal.Gen.facts) (hPre_finite := Cert.Pre_finite.Gen.facts) :=
  fun m g _ => Cert.KernelIdeal.Whole.frame m g

theorem frame_reference_finite : Cert.quiescent_ReferenceIdeal_pre_finite (hReferenceIdeal := Cert.ReferenceIdeal.Gen.facts) (hPre_finite := Cert.Pre_finite.Gen.facts) :=
  fun m g _ => frame_reference m g trivial

open Cert.KernelIdeal.Whole (A0 A1 A2 A3 A4 A5) in
/-- The kernel's two results are the reference's terms of the arguments, and so are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have h0 : ∀ c y, ∃ a : ℝ, A0 m c y = a := fun c => Cert.Pre_finite.real_arg0 _ _ _ _ _ _ (hpre c).1
  have h2 : ∀ c y, ∃ a : ℝ, A2 m c y = a := fun c => Cert.Pre_finite.real_arg2 _ _ _ _ _ _ (hpre c).2.1
  have h3 : ∀ c y, ∃ a : ℝ, A3 m c y = a := fun c => Cert.Pre_finite.real_arg3 _ _ _ _ _ _ (hpre c).2.2.1
  have h4 : ∀ c y, ∃ a : ℝ, A4 m c y = a := fun c => Cert.Pre_finite.real_arg4 _ _ _ _ _ _ (hpre c).2.2.2
  refine ⟨fun c => Cert.ReferenceIdeal.Stages.rotOut (F := Ideal) (Cert.ReferenceIdeal.Stages.product (Cert.ReferenceIdeal.Stages.tokens (A0 m c) (A4 m c))
      (Cert.ReferenceIdeal.Stages.weights (A1 m c) (A3 m c))) (A2 m c) (A5 m c),
    fun c => Cert.ReferenceIdeal.Stages.tokens (F := Ideal) (A0 m c) (A4 m c), ?_, ?_⟩
  · refine (θ_run Cert.KernelIdeal.defs _ _).mono (fun r h c => ?_) (Cert.KernelIdeal.Whole.run (F := Ideal) m g)
    obtain ⟨k0, k1, k2, k3, k4, k5, k6, k7⟩ := h.1 c
    exact ⟨k6.trans (Cert.KernelIdeal.Whole.v6_eq m g c (h0 c) (h2 c) (h3 c) (h4 c)), k7.trans (Cert.KernelIdeal.Whole.v7_eq m g c (h0 c) (h4 c)), k0, k1, k2, k3, k4, k5⟩
  · refine (θ_run Cert.ReferenceIdeal.defs _ _).mono (fun r h c => ?_) (Cert.ReferenceIdeal.Value.run (F := Ideal) m' g')
    obtain ⟨e0, e1, e2, e3, e4, e5⟩ := hargs c
    refine ⟨(h c).1.trans ((Cert.ReferenceIdeal.Stages.out_eq m' c).trans ?_), (h c).2.1.trans ?_, (h c).2.2⟩
    · rw [e0, e1, e2, e3, e4, e5]
      rfl
    · rw [e0, e4]
      rfl

theorem claim : Cert.Claim := ⟨Cert.Kernel.Gen.facts, Cert.KernelIdeal.Gen.facts, Cert.ReferenceIdeal.Gen.facts, Cert.Pre_finite.Gen.facts,
  frame_kernel, frame_kernelIdeal, frame_kernelIdeal_finite, frame_reference, frame_reference_finite,
  ⟨IdealRules.bf16_pair.packStatement _, IdealRules.bf16_pair.statement _ _⟩, algebraic⟩

end Cert.Proof

end
